-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_5) = v0 c
          ∧ r.2.mem ((c.tc : Thread Cert.ReferenceIdeal.nD Cert.ReferenceIdeal.τ).loc Cert.ReferenceIdeal.main_v8_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1048576 : Shape := ⟨1, ![1048576]⟩
abbrev S_ : Shape := ⟨0, ![]⟩

class Facts : Prop where
  bcast_S_S1048576 : S_.BroadcastsInDim S1048576 (![] : Fin 0 → Fin S1048576.rank)
  reducesTo_S1048576_S_d0 : S1048576.ReducesTo [0] S_
  h_S_ : 0 < S_.numel

variable [Facts]

def fn {F : FTy → Type} [FloatOps F] (main_arg0 : FVec F S1048576 .f32) (main_arg1 : FVec F S1048576 .f32) : IVec S_ 1 :=
  let main_v0 : FVec F S1048576 .f32 := Host.absf main_arg0
  let main_cst : FVec F S_ .f32 := constant S_ .f32 0x7F800000#32
  let main_v1 : FVec F S1048576 .f32 := broadcastInDim S1048576 ![] bcast_S_S1048576 main_cst
  let main_v2 : IVec S1048576 1 := cmpf .olt main_v0 main_v1
  let main_c : IVec S_ 1 := constantI S_ 1 1#1
  let main_v3 : IVec S_ 1 := (fun x v => Host.reduce IntOp.andi x v reducesTo_S1048576_S_d0 h_S_) main_v2 main_c
  let main_v4 : FVec F S1048576 .f32 := Host.absf main_arg1
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  main_v8
-- ==== Kernel.lean ====
abbrev S1048576 : Shape := ⟨1, ![1048576]⟩
abbrev S1024x1024 : Shape := ⟨2, ![1024, 1024]⟩
abbrev S512x1024 : Shape := ⟨2, ![512, 1024]⟩
abbrev S256x256 : Shape := ⟨2, ![256, 256]⟩
abbrev S512x256 : Shape := ⟨2, ![512, 256]⟩
abbrev S256x1024 : Shape := ⟨2, ![256, 1024]⟩

abbrev nBuf : Space → Nat
  | .hbm => 8
  | .vmem => 13
  | .smem => 0
  | _ => 0

abbrev bufTy : (tb : Table) → Fin (tcTables nBuf tb) → BufTy
  | .hbm, ⟨0, _⟩ => ⟨S1048576, .f32⟩
  | .hbm, ⟨1, _⟩ => ⟨S1048576, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1048576, .f32⟩
  | .hbm, ⟨7, _⟩ => ⟨S1048576, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S256x256, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![3], ![false]⟩

def k0_cond2 (i : grid0.Coords) : BitVec 1 :=
  let arg0 : BitVec 32 := BitVec.ofNat 32 (i 0).val
  let c2_i32 : BitVec 32 := 2#32
  let v3 : BitVec 1 := Scalar.cmpi .slt arg0 c2_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c512_i32 : BitVec 32 := 512#32
  let v13 : BitVec 32 := Scalar.muli arg0 c512_i32
  let v31 : Index := Scalar.indexCast v13
  let c0_8 : Index := 0#32
  ![v31.toNat, 0]
def k0_off2 (i : grid0.Coords) : Fin 2 → Nat :=
  let arg0 : BitVec 32 := BitVec.ofNat 32 (i 0).val
  let c512_i32 : BitVec 32 := 512#32
  let v13 : BitVec 32 := Scalar.muli arg0 c512_i32
  let v38 : Index := Scalar.indexCast v13
  let c256 : Index := 256#32
  ![v38.toNat, 256]
def k0_off3 (i : grid0.Coords) : Fin 2 → Nat :=
  let arg0 : BitVec 32 := BitVec.ofNat 32 (i 0).val
  let c512_i32 : BitVec 32 := 512#32
  let v13 : BitVec 32 := Scalar.muli arg0 c512_i32
  let v45 : Index := Scalar.indexCast v13
  let c512 : Index := 512#32
  ![v45.toNat, 512]
def k0_off4 (i : grid0.Coords) : Fin 2 → Nat :=
  let arg0 : BitVec 32 := BitVec.ofNat 32 (i 0).val
  let c512_i32 : BitVec 32 := 512#32
  let v13 : BitVec 32 := Scalar.muli arg0 c512_i32
  let v52 : Index := Scalar.indexCast v13
  let c768 : Index := 768#32
  ![v52.toNat, 768]
def k0_cond4 (i : grid0.Coords) : BitVec 1 :=
  let arg0 : BitVec 32 := BitVec.ofNat 32 (i 0).val
  let c1_i32_3 : BitVec 32 := 1#32
  let v9 : BitVec 1 := Scalar.cmpi .sge arg0 c1_i32_3
  let v10 : BitVec 32 := Scalar.extui v9
  let c0_i32_4 : BitVec 32 := 0#32
  let v11 : BitVec 1 := Scalar.cmpi .ne v10 c0_i32_4
  v11

def k0_off5 (i : grid0.Coords) (c0_i32_8 : BitVec 32) : Fin 2 → Nat :=
  let arg0 : BitVec 32 := BitVec.ofNat 32 (i 0).val
  let c1_i32_6 : BitVec 32 := 1#32
  let v13 : BitVec 32 := Scalar.subi arg0 c1_i32_6
  let c2_i32_7 : BitVec 32 := 2#32
  let v14 : BitVec 32 := Scalar.muli v13 c2_i32_7
  let v15 : BitVec 32 := Scalar.addi v14 c0_i32_8
  let c2_i32_11 : BitVec 32 := 2#32
  let c0_i32_12 : BitVec 32 := 0#32
  let v19 : BitVec 1 := Scalar.cmpi .eq c2_i32_11 c0_i32_12
  let c1_i32_13 : BitVec 32 := 1#32
  let v20 : BitVec 32 := Scalar.select v19 c1_i32_13 c2_i32_11
  let v21 : BitVec 32 := Scalar.remsi v15 v20
  let c0_i32_15 : BitVec 32 := 0#32
  let v23 : BitVec 1 := Scalar.cmpi .slt v21 c0_i32_15
  let c0_i32_16 : BitVec 32 := 0#32
  let v24 : BitVec 1 := Scalar.cmpi .slt v20 c0_i32_16
  let v25 : BitVec 1 := Scalar.xori v23 v24
  let c0_i32_14 : BitVec 32 := 0#32
  let v22 : BitVec 1 := Scalar.cmpi .ne v21 c0_i32_14
  let v26 : BitVec 1 := Scalar.andi v25 v22
  let v27 : BitVec 32 := Scalar.addi v21 v20
  let v28 : BitVec 32 := Scalar.select v26 v27 v21
  let c256_i32 : BitVec 32 := 256#32
  let v29 : BitVec 32 := Scalar.muli v28 c256_i32
  let v42 : Index := Scalar.indexCast v29
  let c0_24 : Index := 0#32
  ![v42.toNat, 0]
def k0_off6 (i : grid0.Coords) (c0_i32_8 : BitVec 32) : Fin 2 → Nat :=
  let arg0 : BitVec 32 := BitVec.ofNat 32 (i 0).val
  let c1_i32_6 : BitVec 32 := 1#32
  let v13 : BitVec 32 := Scalar.subi arg0 c1_i32_6
  let c2_i32_7 : BitVec 32 := 2#32
  let v14 : BitVec 32 := Scalar.muli v13 c2_i32_7
  let v15 : BitVec 32 := Scalar.addi v14 c0_i32_8
  let c2_i32_17 : BitVec 32 := 2#32
  let c0_i32_18 : BitVec 32 := 0#32
  let v30 : BitVec 1 := Scalar.cmpi .eq c2_i32_17 c0_i32_18
  let c1_i32_19 : BitVec 32 := 1#32
  let v31 : BitVec 32 := Scalar.select v30 c1_i32_19 c2_i32_17
  let v32 : BitVec 32 := Scalar.remsi v15 v31
  let c0_i32_21 : BitVec 32 := 0#32
  let v34 : BitVec 1 := Scalar.cmpi .slt v32 c0_i32_21
  let c0_i32_22 : BitVec 32 := 0#32
  let v35 : BitVec 1 := Scalar.cmpi .slt v31 c0_i32_22
  let v36 : BitVec 1 := Scalar.xori v34 v35
  let c0_i32_20 : BitVec 32 := 0#32
  let v33 : BitVec 1 := Scalar.cmpi .ne v32 c0_i32_20
  let v37 : BitVec 1 := Scalar.andi v36 v33
  let v38 : BitVec 32 := Scalar.addi v32 v31
  let v39 : BitVec 32 := Scalar.select v37 v38 v32
  let c256_i32_23 : BitVec 32 := 256#32
  let v40 : BitVec 32 := Scalar.muli v39 c256_i32_23
  let c512_i32 : BitVec 32 := 512#32
  let v41 : BitVec 32 := Scalar.addi v40 c512_i32
  let v44 : Index := Scalar.indexCast v41
  let c0_25 : Index := 0#32
  ![v44.toNat, 0]
def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1048576 : Shape := ⟨1, ![1048576]⟩
abbrev S_ : Shape := ⟨0, ![]⟩
abbrev S1048576x1 : Shape := ⟨2, ![1048576, 1]⟩

abbrev nBuf : Space → Nat
  | .hbm => 119
  | .vmem => 0
  | .smem => 0
  | _ => 0

abbrev bufTy : (tb : Table) → Fin (tcTables nBuf tb) → BufTy
  | .hbm, ⟨0, _⟩ => ⟨S1048576, .f32⟩
  | .hbm, ⟨1, _⟩ => ⟨S1048576, .f32⟩
  | .hbm, ⟨2, _⟩ => ⟨S1048576, .f32⟩
  | .hbm, ⟨3, _⟩ => ⟨S_, .f32⟩
  | .hbm, ⟨4, _⟩ => ⟨S1048576, .f32⟩
  | .hbm, ⟨5, _⟩ => ⟨S1048576, .f32⟩
  | .hbm, ⟨6, _⟩ => ⟨S_, .f32⟩
  | .hbm, ⟨7, _⟩ => ⟨S1048576, .f32⟩
  | .hbm, ⟨8, _⟩ => ⟨S1048576, .f32⟩
  | .hbm, ⟨9, _⟩ => ⟨S1048576, .f32⟩
  | .hbm, ⟨10, _⟩ => ⟨S1048576, .f32⟩
  | .hbm, ⟨11, _⟩ => ⟨S1048576, .i32⟩
  | .hbm, ⟨12, _⟩ => ⟨S_, .i32⟩
  | .hbm, ⟨13, _⟩ => ⟨S_, .i32⟩
  | .hbm, ⟨14, _⟩ => ⟨S1048576, .i32⟩
  | .hbm, ⟨15, _⟩ => ⟨S1048576, .f32⟩
  | .hbm, ⟨16, _⟩ => ⟨S1048576, .f32⟩
  | .hbm, ⟨17, _⟩ => ⟨S_, .i32⟩
  | .hbm, ⟨18, _⟩ => ⟨S_, .i32⟩
  | .hbm, ⟨19, _⟩ => ⟨S1048576, .f32⟩
  | .hbm, ⟨20, _⟩ => ⟨S1048576, .f32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1048576, .i32⟩
  | .hbm, ⟨27, _⟩ => ⟨S_, .i32⟩
  | .hbm, ⟨28, _⟩ => ⟨S1048576, .i32⟩
  | .hbm, ⟨29, _⟩ => ⟨S1048576, .i32⟩
  | .hbm, ⟨30, _⟩ => ⟨S1048576, .i32⟩
  | .hbm, ⟨31, _⟩ => ⟨S1048576, .i1⟩
  | .hbm, ⟨32, _⟩ => ⟨S1048576, .i32⟩
  | .hbm, ⟨33, _⟩ => ⟨S_, .i32⟩
  | .hbm, ⟨34, _⟩ => ⟨S1048576, .i32⟩
  | .hbm, ⟨35, _⟩ => ⟨S1048576, .i32⟩
  | .hbm, ⟨36, _⟩ => ⟨S1048576, .i32⟩
  | .hbm, ⟨37, _⟩ => ⟨S1048576, .i1⟩
  | .hbm, ⟨38, _⟩ => ⟨S_, .i32⟩
  | .hbm, ⟨39, _⟩ => ⟨S1048576, .i32⟩
  | .hbm, ⟨40, _⟩ => ⟨S1048576, .i32⟩
  | .hbm, ⟨41, _⟩ => ⟨S_, .i32⟩
  | .hbm, ⟨42, _⟩ => ⟨S1048576, .i32⟩
  | .hbm, ⟨43, _⟩ => ⟨S1048576, .i32⟩
  | .hbm, ⟨44, _⟩ => ⟨S1048576, .i32⟩
  | .hbm, ⟨45, _⟩ => ⟨S_, .i32⟩
  | .hbm, ⟨46, _⟩ => ⟨S1048576, .i32⟩
  | .hbm, ⟨47, _⟩ => ⟨S1048576, .i32⟩
  | .hbm, ⟨48, _⟩ => ⟨S1048576, .i32⟩
  | .hbm, ⟨49, _⟩ => ⟨S_, .i32⟩
  | .hbm, ⟨50, _⟩ => ⟨S1048576, .i32⟩
  | .hbm, ⟨51, _⟩ => ⟨S1048576, .i1⟩
  | .hbm, ⟨52, _⟩ => ⟨S_, .i32⟩
  | .hbm, ⟨53, _⟩ => ⟨S1048576, .i32⟩
  | .hbm, ⟨54, _⟩ => ⟨S1048576, .i32⟩
  | .hbm, ⟨55, _⟩ => ⟨S1048576, .i32⟩
  | .hbm, ⟨56, _⟩ => ⟨S1048576x1, .i32⟩
  | .hbm, ⟨57, _⟩ => ⟨S1048576, .f32⟩
  | .hbm, ⟨58, _⟩ => ⟨S_, .i32⟩
  | .hbm, ⟨59, _⟩ => ⟨S1048576, .i32⟩
  | .hbm, ⟨60, _⟩ => ⟨S1048576, .i1⟩
  | .hbm, ⟨61, _⟩ => ⟨S_, .i32⟩
  | .hbm, ⟨62, _⟩ => ⟨S1048576, .i32⟩
  | .hbm, ⟨63, _⟩ => ⟨S1048576, .i32⟩
  | .hbm, ⟨64, _⟩ => ⟨S1048576, .i32⟩
  | .hbm, ⟨65, _⟩ => ⟨S1048576x1, .i32⟩
  | .hbm, ⟨66, _⟩ => ⟨S1048576, .f32⟩
  | .hbm, ⟨67, _⟩ => ⟨S_, .i32⟩
  | .hbm, ⟨68, _⟩ => ⟨S1048576, .i32⟩
  | .hbm, ⟨69, _⟩ => ⟨S1048576, .i1⟩
  | .hbm, ⟨70, _⟩ => ⟨S_, .i32⟩
  | .hbm, ⟨71, _⟩ => ⟨S1048576, .i32⟩
  | .hbm, ⟨72, _⟩ => ⟨S1048576, .i32⟩
  | .hbm, ⟨73, _⟩ => ⟨S1048576, .i32⟩
  | .hbm, ⟨74, _⟩ => ⟨S1048576x1, .i32⟩
  | .hbm, ⟨75, _⟩ => ⟨S1048576, .f32⟩
  | .hbm, ⟨76, _⟩ => ⟨S_, .i32⟩
  | .hbm, ⟨77, _⟩ => ⟨S1048576, .i32⟩
  | .hbm, ⟨78, _⟩ => ⟨S1048576, .i1⟩
  | .hbm, ⟨79, _⟩ => ⟨S_, .i32⟩
  | .hbm, ⟨80, _⟩ => ⟨S1048576, .i32⟩
  | .hbm, ⟨81, _⟩ => ⟨S1048576, .i32⟩
  | .hbm, ⟨82, _⟩ => ⟨S1048576, .i32⟩
  | .hbm, ⟨83, _⟩ => ⟨S1048576x1, .i32⟩
  | .hbm, ⟨84, _⟩ => ⟨S1048576, .f32⟩
  | .hbm, ⟨85, _⟩ => ⟨S1048576, .i32⟩
  | .hbm, ⟨86, _⟩ => ⟨S_, .i32⟩
  | .hbm, ⟨87, _⟩ => ⟨S1048576, .i32⟩
  | .hbm, ⟨88, _⟩ => ⟨S1048576, .i1⟩
  | .hbm, ⟨89, _⟩ => ⟨S_, .i32⟩
  | .hbm, ⟨90, _⟩ => ⟨S1048576, .i32⟩
  | .hbm, ⟨91, _⟩ => ⟨S1048576, .i32⟩
  | .hbm, ⟨92, _⟩ => ⟨S1048576, .i32⟩
  | .hbm, ⟨93, _⟩ => ⟨S1048576x1, .i32⟩
  | .hbm, ⟨94, _⟩ => ⟨S1048576, .f32⟩
  | .hbm, ⟨95, _⟩ => ⟨S1048576, .i32⟩
  | .hbm, ⟨96, _⟩ => ⟨S_, .i32⟩
  | .hbm, ⟨97, _⟩ => ⟨S1048576, .i32⟩
  | .hbm, ⟨98, _⟩ => ⟨S1048576, .i1⟩
  | .hbm, ⟨99, _⟩ => ⟨S_, .i32⟩
  | .hbm, ⟨100, _⟩ => ⟨S1048576, .i32⟩
  | .hbm, ⟨101, _⟩ => ⟨S1048576, .i32⟩
  | .hbm, ⟨102, _⟩ => ⟨S1048576, .i32⟩
  | .hbm, ⟨103, _⟩ => ⟨S1048576x1, .i32⟩
  | .hbm, ⟨104, _⟩ => ⟨S1048576, .f32⟩
  | .hbm, ⟨105, _⟩ => ⟨S1048576, .f32⟩
  | .hbm, ⟨106, _⟩ => ⟨S1048576, .f32⟩
  | .hbm, ⟨107, _⟩ => ⟨S1048576, .f32⟩
  | .hbm, ⟨108, _⟩ => ⟨S1048576, .f32⟩
  | .hbm, ⟨109, _⟩ => ⟨S1048576, .f32⟩
  | .hbm, ⟨110, _⟩ => ⟨S1048576, .f32⟩
  | .hbm, ⟨111, _⟩ => ⟨S1048576, .f32⟩
  | .hbm, ⟨112, _⟩ => ⟨S1048576, .f32⟩
  | .hbm, ⟨113, _⟩ => ⟨S1048576, .f32⟩
  | .hbm, ⟨114, _⟩ => ⟨S1048576, .f32⟩
  | .hbm, ⟨115, _⟩ => ⟨S1048576, .f32⟩
  | .hbm, ⟨116, _⟩ => ⟨S1048576, .f32⟩
  | .hbm, ⟨117, _⟩ => ⟨S_, .i32⟩
  | .hbm, ⟨118, _⟩ => ⟨S_, .i32⟩
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_1 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev main_v8_6 : Ref sig .tc := ⟨.hbm, 20, rfl⟩
abbrev main_while0c_c_8 : Ref sig .tc := ⟨.hbm, 21, rfl⟩
abbrev main_while0c_v9 : Ref sig .tc := ⟨.hbm, 22, rfl⟩
abbrev main_while0b_c_8 : Ref sig .tc := ⟨.hbm, 23, rfl⟩
abbrev main_while0b_v9 : Ref sig .tc := ⟨.hbm, 24, rfl⟩
abbrev main_while0b_c_9 : Ref sig .tc := ⟨.hbm, 25, rfl⟩
abbrev main_while0b_v10 : Ref sig .tc := ⟨.hbm, 26, rfl⟩
abbrev main_while0b_v11 : Ref sig .tc := ⟨.hbm, 27, rfl⟩
abbrev main_while0b_v12 : Ref sig .tc := ⟨.hbm, 28, rfl⟩
abbrev main_while0b_v13 : Ref sig .tc := ⟨.hbm, 29, rfl⟩
abbrev main_while0b_v14 : Ref sig .tc := ⟨.hbm, 30, rfl⟩
abbrev main_while0b_v15 : Ref sig .tc := ⟨.hbm, 31, rfl⟩
abbrev main_while0b_v16 : Ref sig .tc := ⟨.hbm, 32, rfl⟩
abbrev main_while0b_c_10 : Ref sig .tc := ⟨.hbm, 33, rfl⟩
abbrev main_while0b_v17 : Ref sig .tc := ⟨.hbm, 34, rfl⟩
abbrev main_while0b_v18 : Ref sig .tc := ⟨.hbm, 35, rfl⟩
abbrev main_while0b_v19 : Ref sig .tc := ⟨.hbm, 36, rfl⟩
abbrev main_while0b_v20 : Ref sig .tc := ⟨.hbm, 37, rfl⟩
abbrev main_while0b_c_11 : Ref sig .tc := ⟨.hbm, 38, rfl⟩
abbrev main_while0b_v21 : Ref sig .tc := ⟨.hbm, 39, rfl⟩
abbrev main_while0b_v22 : Ref sig .tc := ⟨.hbm, 40, rfl⟩
abbrev main_while0b_c_12 : Ref sig .tc := ⟨.hbm, 41, rfl⟩
abbrev main_while0b_v23 : Ref sig .tc := ⟨.hbm, 42, rfl⟩
abbrev main_while0b_v24 : Ref sig .tc := ⟨.hbm, 43, rfl⟩
abbrev main_while0b_v25 : Ref sig .tc := ⟨.hbm, 44, rfl⟩
abbrev main_while0b_c_13 : Ref sig .tc := ⟨.hbm, 45, rfl⟩
abbrev main_while0b_v26 : Ref sig .tc := ⟨.hbm, 46, rfl⟩
abbrev main_while0b_v27 : Ref sig .tc := ⟨.hbm, 47, rfl⟩
abbrev main_while0b_v28 : Ref sig .tc := ⟨.hbm, 48, rfl⟩
abbrev main_while0b_c_14 : Ref sig .tc := ⟨.hbm, 49, rfl⟩
abbrev main_while0b_v29 : Ref sig .tc := ⟨.hbm, 50, rfl⟩
abbrev main_while0b_v30 : Ref sig .tc := ⟨.hbm, 51, rfl⟩
abbrev main_while0b_c_15 : Ref sig .tc := ⟨.hbm, 52, rfl⟩
abbrev main_while0b_v31 : Ref sig .tc := ⟨.hbm, 53, rfl⟩
abbrev main_while0b_v32 : Ref sig .tc := ⟨.hbm, 54, rfl⟩
abbrev main_while0b_v33 : Ref sig .tc := ⟨.hbm, 55, rfl⟩
abbrev main_while0b_v34 : Ref sig .tc := ⟨.hbm, 56, rfl⟩
abbrev main_while0b_v35 : Ref sig .tc := ⟨.hbm, 57, rfl⟩
abbrev main_while0b_c_16 : Ref sig .tc := ⟨.hbm, 58, rfl⟩
abbrev main_while0b_v36 : Ref sig .tc := ⟨.hbm, 59, rfl⟩
abbrev main_while0b_v37 : Ref sig .tc := ⟨.hbm, 60, rfl⟩
abbrev main_while0b_c_17 : Ref sig .tc := ⟨.hbm, 61, rfl⟩
abbrev main_while0b_v38 : Ref sig .tc := ⟨.hbm, 62, rfl⟩
abbrev main_while0b_v39 : Ref sig .tc := ⟨.hbm, 63, rfl⟩
abbrev main_while0b_v40 : Ref sig .tc := ⟨.hbm, 64, rfl⟩
abbrev main_while0b_v41 : Ref sig .tc := ⟨.hbm, 65, rfl⟩
abbrev main_while0b_v42 : Ref sig .tc := ⟨.hbm, 66, rfl⟩
abbrev main_while0b_c_18 : Ref sig .tc := ⟨.hbm, 67, rfl⟩
abbrev main_while0b_v43 : Ref sig .tc := ⟨.hbm, 68, rfl⟩
abbrev main_while0b_v44 : Ref sig .tc := ⟨.hbm, 69, rfl⟩
abbrev main_while0b_c_19 : Ref sig .tc := ⟨.hbm, 70, rfl⟩
abbrev main_while0b_v45 : Ref sig .tc := ⟨.hbm, 71, rfl⟩
abbrev main_while0b_v46 : Ref sig .tc := ⟨.hbm, 72, rfl⟩
abbrev main_while0b_v47 : Ref sig .tc := ⟨.hbm, 73, rfl⟩
abbrev main_while0b_v48 : Ref sig .tc := ⟨.hbm, 74, rfl⟩
abbrev main_while0b_v49 : Ref sig .tc := ⟨.hbm, 75, rfl⟩
abbrev main_while0b_c_20 : Ref sig .tc := ⟨.hbm, 76, rfl⟩
abbrev main_while0b_v50 : Ref sig .tc := ⟨.hbm, 77, rfl⟩
abbrev main_while0b_v51 : Ref sig .tc := ⟨.hbm, 78, rfl⟩
abbrev main_while0b_c_21 : Ref sig .tc := ⟨.hbm, 79, rfl⟩
abbrev main_while0b_v52 : Ref sig .tc := ⟨.hbm, 80, rfl⟩
abbrev main_while0b_v53 : Ref sig .tc := ⟨.hbm, 81, rfl⟩
abbrev main_while0b_v54 : Ref sig .tc := ⟨.hbm, 82, rfl⟩
abbrev main_while0b_v55 : Ref sig .tc := ⟨.hbm, 83, rfl⟩
abbrev main_while0b_v56 : Ref sig .tc := ⟨.hbm, 84, rfl⟩
abbrev main_while0b_v57 : Ref sig .tc := ⟨.hbm, 85, rfl⟩
abbrev main_while0b_c_22 : Ref sig .tc := ⟨.hbm, 86, rfl⟩
abbrev main_while0b_v58 : Ref sig .tc := ⟨.hbm, 87, rfl⟩
abbrev main_while0b_v59 : Ref sig .tc := ⟨.hbm, 88, rfl⟩
abbrev main_while0b_c_23 : Ref sig .tc := ⟨.hbm, 89, rfl⟩
abbrev main_while0b_v60 : Ref sig .tc := ⟨.hbm, 90, rfl⟩
abbrev main_while0b_v61 : Ref sig .tc := ⟨.hbm, 91, rfl⟩
abbrev main_while0b_v62 : Ref sig .tc := ⟨.hbm, 92, rfl⟩
abbrev main_while0b_v63 : Ref sig .tc := ⟨.hbm, 93, rfl⟩
abbrev main_while0b_v64 : Ref sig .tc := ⟨.hbm, 94, rfl⟩
abbrev main_while0b_v65 : Ref sig .tc := ⟨.hbm, 95, rfl⟩
abbrev main_while0b_c_24 : Ref sig .tc := ⟨.hbm, 96, rfl⟩
abbrev main_while0b_v66 : Ref sig .tc := ⟨.hbm, 97, rfl⟩
abbrev main_while0b_v67 : Ref sig .tc := ⟨.hbm, 98, rfl⟩
abbrev main_while0b_c_25 : Ref sig .tc := ⟨.hbm, 99, rfl⟩
abbrev main_while0b_v68 : Ref sig .tc := ⟨.hbm, 100, rfl⟩
abbrev main_while0b_v69 : Ref sig .tc := ⟨.hbm, 101, rfl⟩
abbrev main_while0b_v70 : Ref sig .tc := ⟨.hbm, 102, rfl⟩
abbrev main_while0b_v71 : Ref sig .tc := ⟨.hbm, 103, rfl⟩
abbrev main_while0b_v72 : Ref sig .tc := ⟨.hbm, 104, rfl⟩
abbrev main_while0b_v73 : Ref sig .tc := ⟨.hbm, 105, rfl⟩
abbrev main_while0b_v74 : Ref sig .tc := ⟨.hbm, 106, rfl⟩
abbrev main_while0b_v75 : Ref sig .tc := ⟨.hbm, 107, rfl⟩
abbrev main_while0b_v76 : Ref sig .tc := ⟨.hbm, 108, rfl⟩
abbrev main_while0b_v77 : Ref sig .tc := ⟨.hbm, 109, rfl⟩
abbrev main_while0b_v78 : Ref sig .tc := ⟨.hbm, 110, rfl⟩
abbrev main_while0b_v79 : Ref sig .tc := ⟨.hbm, 111, rfl⟩
abbrev main_while0b_v80 : Ref sig .tc := ⟨.hbm, 112, rfl⟩
abbrev main_while0b_v81 : Ref sig .tc := ⟨.hbm, 113, rfl⟩
abbrev main_while0b_v82 : Ref sig .tc := ⟨.hbm, 114, rfl⟩
abbrev main_while0b_v83 : Ref sig .tc := ⟨.hbm, 115, rfl⟩
abbrev main_while0b_v84 : Ref sig .tc := ⟨.hbm, 116, rfl⟩
abbrev main_while0b_c_26 : Ref sig .tc := ⟨.hbm, 117, rfl⟩
abbrev main_while0b_v85 : Ref sig .tc := ⟨.hbm, 118, rfl⟩

abbrev nD : Nat := 1
abbrev τ : Topo := Topo.v7x

variable {F : FTy → Type} [FloatOps F]

abbrev main_while0_count : Scf.Loop 32 := ⟨0#32, 20#32, 1#32⟩
-- ==== Proof.GridPoints.lean ====
/- The three grid points of the kernel: which of the body's four guarded parts run at each, at which rows of the
   scratch matrices its addresses fall, and the buffers the body is called with. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Wht

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The guards -/

/-- The guard of the part that builds the sign matrix. -/
abbrev guardSigns (i : grid0.Coords) : Prop :=
  (Scalar.cmpi .ne (Scalar.extui (Scalar.cmpi .eq (BitVec.ofNat 32 (i 0).val) 0#32)) 0#32) = 1#1
/-- The guard of the part that transforms a block of rows. -/
abbrev guardRows (i : grid0.Coords) : Prop := k0_cond2 i = 1#1
/-- The guard of the part that combines the four row groups two by two. -/
abbrev guardPairs (i : grid0.Coords) : Prop :=
  (Scalar.cmpi .ne (Scalar.extui (Scalar.cmpi .eq (BitVec.ofNat 32 (i 0).val) 1#32)) 0#32) = 1#1
/-- The guard of the part that transforms the columns and writes a block of the results. -/
abbrev guardCols (i : grid0.Coords) : Prop := k0_cond4 i = 1#1

/-- The sign matrix is built at point 0 only. -/
theorem guardSigns_iff : ∀ t : Fin cfg0.N, guardSigns (grid0.coords t) ↔ t.val = 0 :=
  (by decide +kernel : ∀ t : Fin grid0.N, guardSigns (grid0.coords t) ↔ t.val = 0)
/-- Rows are transformed at points 0 and 1. -/
theorem guardRows_iff : ∀ t : Fin cfg0.N, guardRows (grid0.coords t) ↔ t.val < 2 :=
  (by decide +kernel : ∀ t : Fin grid0.N, guardRows (grid0.coords t) ↔ t.val < 2)
/-- The row groups are combined at point 1 only. -/
theorem guardPairs_iff : ∀ t : Fin cfg0.N, guardPairs (grid0.coords t) ↔ t.val = 1 :=
  (by decide +kernel : ∀ t : Fin grid0.N, guardPairs (grid0.coords t) ↔ t.val = 1)
/-- Results are written at points 1 and 2. -/
theorem guardCols_iff : ∀ t : Fin cfg0.N, guardCols (grid0.coords t) ↔ 1 ≤ t.val :=
  (by decide +kernel : ∀ t : Fin grid0.N, guardCols (grid0.coords t) ↔ 1 ≤ t.val)

/-! ## Addresses -/

/-- Point `j`'s half of the rows starts at row `512 j`, its four column groups at columns 0, 256, 512 and 768. -/
theorem off1_eq : ∀ i : grid0.Coords, k0_off1 i = ![512 * (i 0).val, 0] := by decide +kernel
theorem off2_eq : ∀ i : grid0.Coords, k0_off2 i = ![512 * (i 0).val, 256] := by decide +kernel
theorem off3_eq : ∀ i : grid0.Coords, k0_off3 i = ![512 * (i 0).val, 512] := by decide +kernel
theorem off4_eq : ∀ i : grid0.Coords, k0_off4 i = ![512 * (i 0).val, 768] := by decide +kernel
/-- The column transform of step `g` reads row groups `g` and `g + 2`, at every point. -/
theorem off5_0_eq : ∀ i : grid0.Coords, k0_off5 i 0#32 = ![0, 0] := by decide +kernel
theorem off5_1_eq : ∀ i : grid0.Coords, k0_off5 i 1#32 = ![256, 0] := by decide +kernel
theorem off6_0_eq : ∀ i : grid0.Coords, k0_off6 i 0#32 = ![512, 0] := by decide +kernel
theorem off6_1_eq : ∀ i : grid0.Coords, k0_off6 i 1#32 = ![768, 0] := by decide +kernel

instance (i : grid0.Coords) : ClosedOff (k0_off1 i) := ⟨_, off1_eq i⟩
instance (i : grid0.Coords) : ClosedOff (k0_off2 i) := ⟨_, off2_eq i⟩
instance (i : grid0.Coords) : ClosedOff (k0_off3 i) := ⟨_, off3_eq i⟩
instance (i : grid0.Coords) : ClosedOff (k0_off4 i) := ⟨_, off4_eq i⟩
instance (i : grid0.Coords) : ClosedOff (k0_off5 i 0#32) := ⟨_, off5_0_eq i⟩
instance (i : grid0.Coords) : ClosedOff (k0_off5 i 1#32) := ⟨_, off5_1_eq i⟩
instance (i : grid0.Coords) : ClosedOff (k0_off6 i 0#32) := ⟨_, off6_0_eq i⟩
instance (i : grid0.Coords) : ClosedOff (k0_off6 i 1#32) := ⟨_, off6_1_eq i⟩

/-! ## The windows that a point leaves alone -/

/-- The inputs are never idle. -/
theorem live_in0 (t : Fin cfg0.N) : cfg0.idle 0 (grid0.coords t) = false := rfl
theorem live_in1 (t : Fin cfg0.N) : cfg0.idle 1 (grid0.coords t) = false := rfl
/-- At point 0 the two outputs are idle, and nothing is written back. -/
theorem idle_out2 : ∀ t : Fin cfg0.N, t.val = 0 → cfg0.idle 2 (grid0.coords t) = true ∧ (cfg0.win 2).flush t = false := by
  decide +kernel
theorem idle_out3 : ∀ t : Fin cfg0.N, t.val = 0 → cfg0.idle 3 (grid0.coords t) = true ∧ (cfg0.win 3).flush t = false := by
  decide +kernel
/-- At points 1 and 2 they are not. -/
theorem live_out2 : ∀ t : Fin cfg0.N, 1 ≤ t.val → cfg0.idle 2 (grid0.coords t) = false := by decide +kernel
theorem live_out3 : ∀ t : Fin cfg0.N, 1 ≤ t.val → cfg0.idle 3 (grid0.coords t) = false := by decide +kernel

/-! ## The buffers -/

/-- Window `w`'s current staging buffer at point `t`. -/
abbrev stage0 (t : Fin cfg0.N) : Memref sig .tc .vmem S512x1024 .f32 := win0_0.stage (cfg0.slots t 0)
abbrev stage1 (t : Fin cfg0.N) : Memref sig .tc .vmem S512x1024 .f32 := win0_1.stage (cfg0.slots t 1)
abbrev stage2 (t : Fin cfg0.N) : Memref sig .tc .vmem S512x1024 .f32 := win0_2.stage (cfg0.slots t 2)
abbrev stage3 (t : Fin cfg0.N) : Memref sig .tc .vmem S512x1024 .f32 := win0_3.stage (cfg0.slots t 3)

/-- The kernel's own buffers: the sign matrix, the row transforms of the two inputs, their paired sums. -/
abbrev bufH : Memref sig .tc .vmem S256x256 .bf16 := Memref.whole cc0_scratch0
abbrev bufU0 : Memref sig .tc .vmem S1024x1024 .bf16 := Memref.whole cc0_scratch1
abbrev bufU1 : Memref sig .tc .vmem S1024x1024 .bf16 := Memref.whole cc0_scratch2
abbrev bufA0 : Memref sig .tc .vmem S1024x1024 .bf16 := Memref.whole cc0_scratch3
abbrev bufA1 : Memref sig .tc .vmem S1024x1024 .bf16 := Memref.whole cc0_scratch4

/-- What the launch hands the region: the kernel's own buffers at any contents, and the generator's register. -/
theorem launch_state (c : Dev nD) :
    (Pipeline.ΦA spec0 c : sProp 𝕄)
      = iprop(iprop((∃ d, owns (c : Thread nD τ) bufH fullShare d) ∗ (∃ d, owns (c : Thread nD τ) bufU0 fullShare d)
          ∗ (∃ d, owns (c : Thread nD τ) bufU1 fullShare d) ∗ (∃ d, owns (c : Thread nD τ) bufA0 fullShare d)
          ∗ (∃ d, owns (c : Thread nD τ) bufA1 fullShare d)) ∗ (∃ r, prngReg c r)) := by
  unfold Pipeline.ΦA; rw [scopedRest0_eq]; simp only [bufH, bufU0, bufU1, bufA0, bufA1, owns_whole]; try rfl

end Cert.KernelIdeal.Wht

end
-- ==== Proof.Blocks.lean ====
/- What the kernel's blocks hold, as functions of an index: the row transform of the matrix, its paired row groups,
   and one block of the results. These are the contents the grid points pass on to one another. -/
module

public import proofs.«01_k».proof.Proof.GridPoints
public import Idealize.ShloMosaic.Lib.ValueIdxCore
public import Idealize.ShloMosaic.Lib.WritesUnit
public import Idealize.ShloMosaic.Lib.WholeRead
public import Idealize.ShloMosaic.Lib.VecWindow

@[expose] public section

set_option maxRecDepth 16384

noncomputable section

namespace Cert.KernelIdeal.Wht

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

/-- The matrix of signs that the kernel builds first. -/
abbrev signs : Vec F S256x256 .bf16 := k0_pay1

/-- One block of 512 rows transformed along its rows: column group `b` (columns `256 b` to `256 b + 255`). -/
def rowGroup (h : Vec F S256x256 .bf16) (x : Vec F S512x1024 .f32) (b : ℕ) : Vec F S512x256 .bf16 :=
  match b with
  | 0 => k0_pay29 h x
  | 1 => k0_pay30 h x
  | 2 => k0_pay31 h x
  | _ => k0_pay32 h x

/-- The row transform of the whole matrix, from its two blocks of 512 rows. -/
def rowTransform (h : Vec F S256x256 .bf16) (x0 x1 : Vec F S512x1024 .f32) : Vec F S1024x1024 .bf16 := fun y =>
  rowGroup h (if (y 0).val < 512 then x0 else x1) ((y 1).val / 256)
    (ix2 ⟨(y 0).val % 512, Nat.mod_lt _ (by norm_num)⟩ ⟨(y 1).val % 256, Nat.mod_lt _ (by norm_num)⟩)

/-- Row group `k` of a 1024 x 1024 matrix: its rows `256 k` to `256 k + 255`. -/
def rowsOf (k : ℕ) (hk : k < 4) (u : Vec F S1024x1024 .bf16) : Vec F S256x1024 .bf16 := fun z =>
  u (ix2 ⟨256 * k + (z 0).val, by have : (z 0).val < 256 := (z 0).isLt; omega⟩ (z 1))

/-- Sums and differences of row groups 0 and 1, then of row groups 2 and 3. -/
def pairGroup (u : Vec F S1024x1024 .bf16) (p : ℕ) : Vec F S256x1024 .bf16 :=
  match p with
  | 0 => k0_pay33 (rowsOf 0 (by norm_num) u) (rowsOf 1 (by norm_num) u)
  | 1 => k0_pay34 (rowsOf 0 (by norm_num) u) (rowsOf 1 (by norm_num) u)
  | 2 => k0_pay35 (rowsOf 2 (by norm_num) u) (rowsOf 3 (by norm_num) u)
  | _ => k0_pay36 (rowsOf 2 (by norm_num) u) (rowsOf 3 (by norm_num) u)

/-- The four combined row groups, stacked. -/
def pairs (u : Vec F S1024x1024 .bf16) : Vec F S1024x1024 .bf16 := fun y =>
  pairGroup u ((y 0).val / 256) (ix2 ⟨(y 0).val % 256, Nat.mod_lt _ (by norm_num)⟩ (y 1))

/-- Half of a block of the results: row groups `g` and `g + 2` of the combined groups, the second with the sign `s`,
    transformed along the columns. -/
def colGroup (h : Vec F S256x256 .bf16) (s : F .bf16) (a : Vec F S1024x1024 .bf16) (g : ℕ) : Vec F S256x1024 .f32 :=
  match g with
  | 0 => k0_pay42 h s (rowsOf 0 (by norm_num) a) (rowsOf 2 (by norm_num) a)
  | _ => k0_pay42 h s (rowsOf 1 (by norm_num) a) (rowsOf 3 (by norm_num) a)

/-- A block of the results: 512 rows in two halves. -/
def colBlock (h : Vec F S256x256 .bf16) (s : F .bf16) (a : Vec F S1024x1024 .bf16) : Vec F S512x1024 .f32 := fun y =>
  colGroup h s a ((y 0).val / 256) (ix2 ⟨(y 0).val % 256, Nat.mod_lt _ (by norm_num)⟩ (y 1))

/-! ## Reading back what a point stored -/

section Stores
variable {Val : EltTy → Type} {κ : Kind} {sp : Space} {e : EltTy}

/-- A load of 256 rows from row `o` reads those rows. -/
theorem readAt_rows (v : View sig κ sp S1024x1024 e) (f : v.ty.Contents Val) {off : Fin 2 → ℕ} (o : ℕ) (ho : off = ![o, 0])
    (ho' : o + 256 ≤ 1024)
    (inb : ∀ a, off a + S256x1024.size a ≤ S1024x1024.size a) (z : S256x1024.Idx) :
    v.readAt Val (Rect.unit (s := S1024x1024) off S256x1024.size inb).toLoadRect f z
      = v.read Val f (ix2 ⟨o + (z 0).val, by have : (z 0).val < 256 := (z 0).isLt; omega⟩ (z 1)) := by
  subst ho
  rw [View.readAt_apply]
  congr 1
  funext a
  apply Fin.ext
  match a with
  | ⟨0, _⟩ => show o + 1 * (z 0).val = o + (z 0).val; omega
  | ⟨1, _⟩ => show 0 + 1 * (z 1).val = (z 1).val; omega

/-- Four stores of 512 rows from row `o`, one for each group of 256 columns: within those rows the matrix reads the
    group's stored block. -/
theorem read_four_cols (v : View sig κ sp S1024x1024 e) (f : v.ty.Contents Val) (o : ℕ) {o0 o1 o2 o3 : Fin 2 → ℕ}
    (h0 : o0 = ![o, 0]) (h1 : o1 = ![o, 256]) (h2 : o2 = ![o, 512]) (h3 : o3 = ![o, 768])
    (inb0 : ∀ a, o0 a + S512x256.size a ≤ S1024x1024.size a) (inb1 : ∀ a, o1 a + S512x256.size a ≤ S1024x1024.size a)
    (inb2 : ∀ a, o2 a + S512x256.size a ≤ S1024x1024.size a) (inb3 : ∀ a, o3 a + S512x256.size a ≤ S1024x1024.size a)
    (w : ℕ → S512x256.Idx → Val e) (y : S1024x1024.Idx) (r : Fin 512) (hr : (y 0).val = o + r.val) :
    v.read Val (v.writes Val f [⟨Rect.unit (s := S1024x1024) o3 S512x256.size inb3, w 3⟩,
        ⟨Rect.unit (s := S1024x1024) o2 S512x256.size inb2, w 2⟩, ⟨Rect.unit (s := S1024x1024) o1 S512x256.size inb1, w 1⟩,
        ⟨Rect.unit (s := S1024x1024) o0 S512x256.size inb0, w 0⟩]) y
      = w ((y 1).val / 256) (ix2 r ⟨(y 1).val % 256, Nat.mod_lt _ (by norm_num)⟩) := by
  have hy : (y 1).val < 1024 := (y 1).isLt
  have hit : ∀ (k : ℕ) (ok : Fin 2 → ℕ) (hk : ok = ![o, 256 * k]) (inb : ∀ a, ok a + S512x256.size a ≤ S1024x1024.size a)
      (L : List (View.Piece Val S1024x1024 e)) (hyk : (y 1).val / 256 = k),
      v.read Val (v.writes Val f ((⟨Rect.unit (s := S1024x1024) ok S512x256.size inb, w k⟩ : View.Piece Val S1024x1024 e) :: L)) y
        = w ((y 1).val / 256) (ix2 r ⟨(y 1).val % 256, Nat.mod_lt _ (by norm_num)⟩) := by
    intro k ok hk inb L hyk
    rw [hyk]
    refine View.read_writes_cons_unit_of_mem v f inb (w k) L y _ hk fun a => ?_
    match a with
    | ⟨0, _⟩ => exact hr
    | ⟨1, _⟩ => show (y 1).val = 256 * k + (y 1).val % 256; omega
  have miss : ∀ (k : ℕ) (ok : Fin 2 → ℕ) (hk : ok = ![o, 256 * k]) (inb : ∀ a, ok a + S512x256.size a ≤ S1024x1024.size a)
      (L : List (View.Piece Val S1024x1024 e)) (hyk : (y 1).val < 256 * k),
      v.read Val (v.writes Val f ((⟨Rect.unit (s := S1024x1024) ok S512x256.size inb, w k⟩ : View.Piece Val S1024x1024 e) :: L)) y
        = v.read Val (v.writes Val f L) y :=
    fun k ok hk inb L hyk => View.read_writes_cons_unit_of_not_mem v f inb (w k) L y hk 1 (Or.inl hyk)
  by_cases c3 : 768 ≤ (y 1).val
  · exact hit 3 o3 h3 inb3 _ (by omega)
  rw [miss 3 o3 h3 inb3 _ (by omega)]
  by_cases c2 : 512 ≤ (y 1).val
  · exact hit 2 o2 h2 inb2 _ (by omega)
  rw [miss 2 o2 h2 inb2 _ (by omega)]
  by_cases c1 : 256 ≤ (y 1).val
  · exact hit 1 o1 h1 inb1 _ (by omega)
  rw [miss 1 o1 h1 inb1 _ (by omega)]
  exact hit 0 o0 h0 inb0 _ (by omega)

/-- The same four stores leave the rows before row `o` alone. -/
theorem read_four_cols_above (v : View sig κ sp S1024x1024 e) (f : v.ty.Contents Val) (o : ℕ) {o0 o1 o2 o3 : Fin 2 → ℕ}
    (h0 : o0 = ![o, 0]) (h1 : o1 = ![o, 256]) (h2 : o2 = ![o, 512]) (h3 : o3 = ![o, 768])
    (inb0 : ∀ a, o0 a + S512x256.size a ≤ S1024x1024.size a) (inb1 : ∀ a, o1 a + S512x256.size a ≤ S1024x1024.size a)
    (inb2 : ∀ a, o2 a + S512x256.size a ≤ S1024x1024.size a) (inb3 : ∀ a, o3 a + S512x256.size a ≤ S1024x1024.size a)
    (w0 w1 w2 w3 : S512x256.Idx → Val e) (y : S1024x1024.Idx) (hr : (y 0).val < o) :
    v.read Val (v.writes Val f [⟨Rect.unit (s := S1024x1024) o3 S512x256.size inb3, w3⟩,
        ⟨Rect.unit (s := S1024x1024) o2 S512x256.size inb2, w2⟩, ⟨Rect.unit (s := S1024x1024) o1 S512x256.size inb1, w1⟩,
        ⟨Rect.unit (s := S1024x1024) o0 S512x256.size inb0, w0⟩]) y
      = v.read Val f y := by
  rw [View.read_writes_cons_unit_of_not_mem v f inb3 w3 _ y h3 0 (Or.inl hr),
    View.read_writes_cons_unit_of_not_mem v f inb2 w2 _ y h2 0 (Or.inl hr),
    View.read_writes_cons_unit_of_not_mem v f inb1 w1 _ y h1 0 (Or.inl hr),
    View.read_writes_cons_unit_of_not_mem v f inb0 w0 _ y h0 0 (Or.inl hr), View.writes_nil]

/-- Four stores of 256 rows each: the matrix reads the row group's stored block. -/
theorem read_four_rows (v : View sig κ sp S1024x1024 e) (f : v.ty.Contents Val) {o0 o1 o2 o3 : Fin 2 → ℕ}
    (h0 : o0 = ![0, 0]) (h1 : o1 = ![256, 0]) (h2 : o2 = ![512, 0]) (h3 : o3 = ![768, 0])
    (inb0 : ∀ a, o0 a + S256x1024.size a ≤ S1024x1024.size a) (inb1 : ∀ a, o1 a + S256x1024.size a ≤ S1024x1024.size a)
    (inb2 : ∀ a, o2 a + S256x1024.size a ≤ S1024x1024.size a) (inb3 : ∀ a, o3 a + S256x1024.size a ≤ S1024x1024.size a)
    (w : ℕ → S256x1024.Idx → Val e) (y : S1024x1024.Idx) :
    v.read Val (v.writes Val f [⟨Rect.unit (s := S1024x1024) o3 S256x1024.size inb3, w 3⟩,
        ⟨Rect.unit (s := S1024x1024) o2 S256x1024.size inb2, w 2⟩, ⟨Rect.unit (s := S1024x1024) o1 S256x1024.size inb1, w 1⟩,
        ⟨Rect.unit (s := S1024x1024) o0 S256x1024.size inb0, w 0⟩]) y
      = w ((y 0).val / 256) (ix2 ⟨(y 0).val % 256, Nat.mod_lt _ (by norm_num)⟩ (y 1)) := by
  have hy : (y 0).val < 1024 := (y 0).isLt
  have hit : ∀ (k : ℕ) (ok : Fin 2 → ℕ) (hk : ok = ![256 * k, 0]) (inb : ∀ a, ok a + S256x1024.size a ≤ S1024x1024.size a)
      (L : List (View.Piece Val S1024x1024 e)) (hyk : (y 0).val / 256 = k),
      v.read Val (v.writes Val f ((⟨Rect.unit (s := S1024x1024) ok S256x1024.size inb, w k⟩ : View.Piece Val S1024x1024 e) :: L)) y
        = w ((y 0).val / 256) (ix2 ⟨(y 0).val % 256, Nat.mod_lt _ (by norm_num)⟩ (y 1)) := by
    intro k ok hk inb L hyk
    rw [hyk]
    refine View.read_writes_cons_unit_of_mem v f inb (w k) L y _ hk fun a => ?_
    match a with
    | ⟨0, _⟩ => show (y 0).val = 256 * k + (y 0).val % 256; omega
    | ⟨1, _⟩ => exact (Nat.zero_add _).symm
  have miss : ∀ (k : ℕ) (ok : Fin 2 → ℕ) (hk : ok = ![256 * k, 0]) (inb : ∀ a, ok a + S256x1024.size a ≤ S1024x1024.size a)
      (L : List (View.Piece Val S1024x1024 e)) (hyk : (y 0).val < 256 * k),
      v.read Val (v.writes Val f ((⟨Rect.unit (s := S1024x1024) ok S256x1024.size inb, w k⟩ : View.Piece Val S1024x1024 e) :: L)) y
        = v.read Val (v.writes Val f L) y :=
    fun k ok hk inb L hyk => View.read_writes_cons_unit_of_not_mem v f inb (w k) L y hk 0 (Or.inl hyk)
  by_cases c3 : 768 ≤ (y 0).val
  · exact hit 3 o3 h3 inb3 _ (by omega)
  rw [miss 3 o3 h3 inb3 _ (by omega)]
  by_cases c2 : 512 ≤ (y 0).val
  · exact hit 2 o2 h2 inb2 _ (by omega)
  rw [miss 2 o2 h2 inb2 _ (by omega)]
  by_cases c1 : 256 ≤ (y 0).val
  · exact hit 1 o1 h1 inb1 _ (by omega)
  rw [miss 1 o1 h1 inb1 _ (by omega)]
  exact hit 0 o0 h0 inb0 _ (by omega)

/-- Two stores of 256 rows each into a block of the results: the block reads the stored half. -/
theorem read_two_rows (v : View sig κ sp S512x1024 e) (f : v.ty.Contents Val) {o0 o1 : Fin 2 → ℕ}
    (h0 : o0 = ![0, 0]) (h1 : o1 = ![256, 0])
    (inb0 : ∀ a, o0 a + S256x1024.size a ≤ S512x1024.size a) (inb1 : ∀ a, o1 a + S256x1024.size a ≤ S512x1024.size a)
    (w : ℕ → S256x1024.Idx → Val e) (y : S512x1024.Idx) :
    v.read Val (v.writes Val f [⟨Rect.unit (s := S512x1024) o1 S256x1024.size inb1, w 1⟩,
        ⟨Rect.unit (s := S512x1024) o0 S256x1024.size inb0, w 0⟩]) y
      = w ((y 0).val / 256) (ix2 ⟨(y 0).val % 256, Nat.mod_lt _ (by norm_num)⟩ (y 1)) := by
  have hy : (y 0).val < 512 := (y 0).isLt
  by_cases c1 : 256 ≤ (y 0).val
  · rw [show (y 0).val / 256 = 1 by omega]
    refine View.read_writes_cons_unit_of_mem v f inb1 (w 1) _ y _ h1 fun a => ?_
    match a with
    | ⟨0, _⟩ => show (y 0).val = 256 + (y 0).val % 256; omega
    | ⟨1, _⟩ => exact (Nat.zero_add _).symm
  · rw [View.read_writes_cons_unit_of_not_mem v f inb1 (w 1) _ y h1 0 (Or.inl (by show (y 0).val < 256; omega)),
      show (y 0).val / 256 = 0 by omega]
    refine View.read_writes_cons_unit_of_mem v f inb0 (w 0) _ y _ h0 fun a => ?_
    match a with
    | ⟨0, _⟩ => show (y 0).val = 0 + (y 0).val % 256; omega
    | ⟨1, _⟩ => exact (Nat.zero_add _).symm

end Stores

/-- A load of 256 rows from row `256 k` of a buffer that reads `a` reads row group `k` of `a`. -/
theorem load_group (v : View sig .tc .vmem S1024x1024 .bf16) (f : v.ty.Contents (Elt F)) (a : Vec F S1024x1024 .bf16)
    (hf : v.read (Elt F) f = a) (k : ℕ) (hk : k < 4)
    {off : Fin 2 → ℕ} (ho : off = ![256 * k, 0]) (inb : ∀ d, off d + S256x1024.size d ≤ S1024x1024.size d) :
    View.readAt (Elt F) v (Rect.unit (s := S1024x1024) off S256x1024.size inb).toLoadRect f = rowsOf k hk a := by
  funext z
  rw [readAt_rows v f (256 * k) ho (by omega) inb z, hf]
  rfl

/-- The same of a buffer of the kernel's held at `a`. -/
theorem load_group_whole (m : Memref sig .tc .vmem S1024x1024 .bf16) (hm : m.IsWhole) (a : Vec F S1024x1024 .bf16) (k : ℕ) (hk : k < 4)
    {off : Fin 2 → ℕ} (ho : off = ![256 * k, 0]) (inb : ∀ d, off d + S256x1024.size d ≤ S1024x1024.size d) :
    View.readAt (Elt F) m.view (Rect.unit (s := S1024x1024) off S256x1024.size inb).toLoadRect (hm.unread a) = rowsOf k hk a :=
  load_group m.view (hm.unread a) a (hm.read_unread a) k hk ho inb

/-- The two signs of a grid point are one: the point alone decides it. -/
theorem sign_second (i : grid0.Coords) :
    (k0_pay43 (Scalar.subi (BitVec.ofNat 32 (i 0).val) 1#32) : F .bf16) = k0_pay39 (BitVec.ofNat 32 (i 0).val) := by
  have hw : ∀ i : grid0.Coords,
      Scalar.cmpi .slt (Scalar.addi (Scalar.muli (Scalar.subi (BitVec.ofNat 32 (i 0).val) 1#32) 2#32) 1#32) 2#32
        = Scalar.cmpi .slt (Scalar.addi (Scalar.muli (Scalar.subi (BitVec.ofNat 32 (i 0).val) 1#32) 2#32) 0#32) 2#32 := by
    decide +kernel
  unfold k0_pay43 k0_pay39
  dsimp only
  rw [hw i]

end Cert.KernelIdeal.Wht

end
-- ==== Proof.RunPoint0.lean ====
/- Point 0 of the kernel, run: the body builds the sign matrix and transforms the first half of the rows of both
   inputs. -/
module

public import proofs.«01_k».proof.Proof.GridPoints

@[expose] public section

set_option maxRecDepth 16384

noncomputable section

namespace Cert.KernelIdeal.Wht

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole) (arg2 : Memref sig .tc .vmem S512x1024 .f32) (harg2 : arg2.IsWhole)
  (arg3 : Memref sig .tc .vmem S512x1024 .f32) (harg3 : arg3.IsWhole) (arg4 : Memref sig .tc .vmem S512x1024 .f32) (harg4 : arg4.IsWhole)
  (arg5 : Memref sig .tc .vmem S256x256 .bf16) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1024x1024 .bf16) (harg8 : arg8.IsWhole) (arg9 : Memref sig .tc .vmem S1024x1024 .bf16) (harg9 : arg9.IsWhole)

set_option maxHeartbeats 2000000 in
/-- The body at point 0, from the inputs' blocks `x0`, `x1`: what it stores into the sign matrix and into the two row
    transforms, as lists of stores, with the proof that it ends having made them and having left everything else alone. -/
def run0 (g0 : guardSigns i) (g1 : guardRows i) (g2 : ¬guardPairs i) (g3 : ¬guardCols i)
    (x0 x1 : Vec F S512x1024 .f32) :
    Σ' (LH : List (View.Piece (Elt F) S256x256 .bf16)), Σ' (LU0 : List (View.Piece (Elt F) S1024x1024 .bf16)), { LU1 : List (View.Piece (Elt F) S1024x1024 .bf16) //
      ∀ (E : Set ℕ) (K : PUnit → sProp 𝕄),
        iprop(owns (c : Thread nD τ) arg1 fullShare x0 ∗ owns (c : Thread nD τ) arg2 fullShare x1
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1
                ∗ (∃ f, arg5.view.loc (c : Thread nD τ) ↦[arg5.view.set]{fullShare} arg5.view.writes (Elt F) f LH)
                ∗ (∃ f, arg6.view.loc (c : Thread nD τ) ↦[arg6.view.set]{fullShare} arg6.view.writes (Elt F) f LU0)
                ∗ (∃ f, arg7.view.loc (c : Thread nD τ) ↦[arg7.view.set]{fullShare} arg7.view.writes (Elt F) f LU1)) -∗ K ⟨⟩))
          ⊢ wp frame (wpE (defs₀ (F := F)) Variants.none c none) E
              (cc0__wht_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__wht_kernel_eq_skeleton]; unfold cc0__wht_kernel_skel
    simp only [k0_part1_eq_skeleton]
    unfold owns
    iintro ⟨⟨%f0, %hf0, H0⟩, ⟨%f1, %hf1, H1⟩, ⟨%ds0, %fs0, -, HS0⟩, ⟨%ds1, %fs1, -, HS1⟩, ⟨%ds2, %fs2, -, HS2⟩, Hk⟩
    obtain rfl := harg1.eq_unread hf0; obtain rfl := harg2.eq_unread hf1
    sl_exec (disch := first | sl_exact g0 | sl_exact g1 | sl_exact g2 | sl_exact g3)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    isplitl [HS1]; · iexists _; iexact HS1
    iexists _; iexact HS2

end Cert.KernelIdeal.Wht

end
-- ==== Proof.LeftPoint0.lean ====
/- What point 0 leaves: the sign matrix, and the row transforms of the first half of the rows. -/
module

public import proofs.«01_k».proof.Proof.Blocks
public import proofs.«01_k».proof.Proof.RunPoint0

@[expose] public section

set_option maxRecDepth 16384

noncomputable section

namespace Cert.KernelIdeal.Wht

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

variable (c : Dev nD) (i : grid0.Coords)
  (arg1 : Memref sig .tc .vmem S512x1024 .f32) (harg1 : arg1.IsWhole) (arg2 : Memref sig .tc .vmem S512x1024 .f32) (harg2 : arg2.IsWhole)
  (arg3 : Memref sig .tc .vmem S512x1024 .f32) (harg3 : arg3.IsWhole) (arg4 : Memref sig .tc .vmem S512x1024 .f32) (harg4 : arg4.IsWhole)
  (arg5 : Memref sig .tc .vmem S256x256 .bf16) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1024x1024 .bf16) (harg8 : arg8.IsWhole) (arg9 : Memref sig .tc .vmem S1024x1024 .bf16) (harg9 : arg9.IsWhole)

  (g0 : guardSigns i) (g1 : guardRows i) (g2 : ¬guardPairs i) (g3 : ¬guardCols i) (x0 x1 : Vec F S512x1024 .f32)

/-- Within the first 512 rows the row transform reads the first block's. -/
theorem rowTransform_low (h : Vec F S256x256 .bf16) (x x' : Vec F S512x1024 .f32) (y : S1024x1024.Idx) (hy : (y 0).val < 512) :
    rowTransform h x x' y = rowGroup h x ((y 1).val / 256) (ix2 ⟨(y 0).val, hy⟩ ⟨(y 1).val % 256, Nat.mod_lt _ (by norm_num)⟩) := by
  unfold rowTransform
  rw [if_pos hy]
  congr 2
  exact Fin.ext (Nat.mod_eq_of_lt hy)

/-- After point 0 the first buffer of the kernel holds the signs. -/
theorem run0_signs (f : arg5.view.ty.Contents (Elt F)) :
    arg5.view.read (Elt F) (arg5.view.writes (Elt F) f (run0 c i arg1 harg1 arg2 harg2 arg3 harg3 arg4 harg4 arg5 harg5 arg6 harg6 arg7 harg7 arg8 harg8 arg9 harg9 g0 g1 g2 g3 x0 x1).1)
      = signs := by
  unfold run0; dsimp only; sl_unfold_run_names
  exact View.read_writes_full _ _ _ _ _

/-- After point 0 the first 512 rows of the real part's buffer hold the row transform. -/
theorem run0_rows0 (hi : (i 0).val = 0) (x' : Vec F S512x1024 .f32) (f : arg6.view.ty.Contents (Elt F)) (y : S1024x1024.Idx) (hy : (y 0).val < 512) :
    arg6.view.read (Elt F) (arg6.view.writes (Elt F) f (run0 c i arg1 harg1 arg2 harg2 arg3 harg3 arg4 harg4 arg5 harg5 arg6 harg6 arg7 harg7 arg8 harg8 arg9 harg9 g0 g1 g2 g3 x0 x1).2.1) y
      = rowTransform signs x0 x' y := by
  rw [rowTransform_low _ _ _ _ hy]
  have e0 : 512 * (i 0).val = 0 := by rw [hi]
  unfold run0; dsimp only; sl_unfold_run_names
  rw [View.readAt_full, harg1.read_unread, View.readCov_full]
  exact read_four_cols arg6.view f 0 (by rw [off1_eq, e0]) (by rw [off2_eq, e0]) (by rw [off3_eq, e0]) (by rw [off4_eq, e0])
    _ _ _ _ (rowGroup signs x0) y ⟨(y 0).val, hy⟩ (Nat.zero_add _).symm

/-- And of the imaginary part's. -/
theorem run0_rows1 (hi : (i 0).val = 0) (x' : Vec F S512x1024 .f32) (f : arg7.view.ty.Contents (Elt F)) (y : S1024x1024.Idx) (hy : (y 0).val < 512) :
    arg7.view.read (Elt F) (arg7.view.writes (Elt F) f (run0 c i arg1 harg1 arg2 harg2 arg3 harg3 arg4 harg4 arg5 harg5 arg6 harg6 arg7 harg7 arg8 harg8 arg9 harg9 g0 g1 g2 g3 x0 x1).2.2.1) y
      = rowTransform signs x1 x' y := by
  rw [rowTransform_low _ _ _ _ hy]
  have e0 : 512 * (i 0).val = 0 := by rw [hi]
  unfold run0; dsimp only; sl_unfold_run_names
  rw [View.readAt_full, harg2.read_unread, View.readCov_full]
  exact read_four_cols arg7.view f 0 (by rw [off1_eq, e0]) (by rw [off2_eq, e0]) (by rw [off3_eq, e0]) (by rw [off4_eq, e0])
    _ _ _ _ (rowGroup signs x1) y ⟨(y 0).val, hy⟩ (Nat.zero_add _).symm

end Cert.KernelIdeal.Wht

end
-- ==== Proof.RunPoint1.lean ====
/- Point 1 of the kernel, run: the body transforms the second half of the rows, combines the four row groups two by
   two, transforms the columns and writes the first half of the results. -/
module

public import proofs.«01_k».proof.Proof.RunPoint0

@[expose] public section

set_option maxRecDepth 16384

noncomputable section

namespace Cert.KernelIdeal.Wht

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole) (arg2 : Memref sig .tc .vmem S512x1024 .f32) (harg2 : arg2.IsWhole)
  (arg3 : Memref sig .tc .vmem S512x1024 .f32) (harg3 : arg3.IsWhole) (arg4 : Memref sig .tc .vmem S512x1024 .f32) (harg4 : arg4.IsWhole)
  (arg5 : Memref sig .tc .vmem S256x256 .bf16) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1024x1024 .bf16) (harg8 : arg8.IsWhole) (arg9 : Memref sig .tc .vmem S1024x1024 .bf16) (harg9 : arg9.IsWhole)

set_option maxHeartbeats 4000000 in
/-- The body at point 1, from the inputs' blocks `x0`, `x1`, the sign matrix `h` and the row transforms `u0`, `u1` as
    the point before left them: what it stores into the results' buffers, the row transforms and the paired sums, as
    lists of stores, with the proof that it ends having made them. -/
def run1 (g0 : ¬guardSigns i) (g1 : guardRows i) (g2 : guardPairs i) (g3 : guardCols i)
    (x0 x1 : Vec F S512x1024 .f32) (h : Vec F S256x256 .bf16) (u0 u1 : Vec F S1024x1024 .bf16) :
    Σ' (LO0 : List (View.Piece (Elt F) S512x1024 .f32)), Σ' (LO1 : List (View.Piece (Elt F) S512x1024 .f32)), Σ' (LU0 : List (View.Piece (Elt F) S1024x1024 .bf16)), Σ' (LU1 : List (View.Piece (Elt F) S1024x1024 .bf16)), Σ' (LA0 : List (View.Piece (Elt F) S1024x1024 .bf16)), { LA1 : List (View.Piece (Elt F) S1024x1024 .bf16) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ owns (c : Thread nD τ) arg5 fullShare h ∗ owns (c : Thread nD τ) arg6 fullShare u0 ∗ owns (c : Thread nD τ) arg7 fullShare u1
            ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f LO0)
                ∗ (∃ f, arg4.view.loc (c : Thread nD τ) ↦[arg4.view.set]{fullShare} arg4.view.writes (Elt F) f LO1)
                ∗ owns (c : Thread nD τ) arg5 fullShare h
                ∗ (arg6.view.loc (c : Thread nD τ) ↦[arg6.view.set]{fullShare} arg6.view.writes (Elt F) (harg6.unread u0) LU0)
                ∗ (arg7.view.loc (c : Thread nD τ) ↦[arg7.view.set]{fullShare} arg7.view.writes (Elt F) (harg7.unread u1) LU1)
                ∗ (∃ f, arg8.view.loc (c : Thread nD τ) ↦[arg8.view.set]{fullShare} arg8.view.writes (Elt F) f LA0)
                ∗ (∃ f, arg9.view.loc (c : Thread nD τ) ↦[arg9.view.set]{fullShare} arg9.view.writes (Elt F) f LA1)) -∗ K ⟨⟩))
          ⊢ wp frame (wpE (defs₀ (F := F)) Variants.none c none) E
              (cc0__wht_kernel i arg1 harg1 arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__wht_kernel_eq_skeleton]; unfold cc0__wht_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, ⟨%ds3, %fs3, -, HS3⟩, ⟨%ds4, %fs4, -, HS4⟩, Hk⟩
    obtain rfl := harg1.eq_unread hf0; obtain rfl := harg2.eq_unread hf1
    obtain rfl := harg5.eq_unread hfs0; obtain rfl := harg6.eq_unread hfs1; obtain rfl := harg7.eq_unread hfs2
    sl_exec (disch := first | sl_exact g0 | sl_exact g1 | sl_exact g2 | sl_exact g3)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]
    · iexists _; isplitr; · ipureintro; exact harg5.read_unread _
      iexact HS0
    isplitl [HS1]; · iexact HS1
    isplitl [HS2]; · iexact HS2
    isplitl [HS3]; · iexists _; iexact HS3
    iexists _; iexact HS4

end Cert.KernelIdeal.Wht

end
-- ==== Proof.LeftPoint1.lean ====
/- What point 1 leaves: the complete row transforms, their combined row groups, and the first block of each result. -/
module

public import proofs.«01_k».proof.Proof.Blocks
public import proofs.«01_k».proof.Proof.RunPoint1

@[expose] public section

set_option maxRecDepth 16384

noncomputable section

namespace Cert.KernelIdeal.Wht

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

/-- Within the last 512 rows the row transform reads the second block's. -/
theorem rowTransform_high (h : Vec F S256x256 .bf16) (x x' : Vec F S512x1024 .f32) (y : S1024x1024.Idx) (hy : 512 ≤ (y 0).val) :
    rowTransform h x x' y = rowGroup h x' ((y 1).val / 256)
      (ix2 ⟨(y 0).val - 512, by have : (y 0).val < 1024 := (y 0).isLt; omega⟩ ⟨(y 1).val % 256, Nat.mod_lt _ (by norm_num)⟩) := by
  have : (y 0).val < 1024 := (y 0).isLt
  unfold rowTransform
  rw [if_neg (by omega)]
  congr 2
  apply Fin.ext
  show (y 0).val % 512 = (y 0).val - 512
  omega

variable (c : Dev nD) (i : grid0.Coords)
  (arg1 : Memref sig .tc .vmem S512x1024 .f32) (harg1 : arg1.IsWhole) (arg2 : Memref sig .tc .vmem S512x1024 .f32) (harg2 : arg2.IsWhole)
  (arg3 : Memref sig .tc .vmem S512x1024 .f32) (harg3 : arg3.IsWhole) (arg4 : Memref sig .tc .vmem S512x1024 .f32) (harg4 : arg4.IsWhole)
  (arg5 : Memref sig .tc .vmem S256x256 .bf16) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1024x1024 .bf16) (harg8 : arg8.IsWhole) (arg9 : Memref sig .tc .vmem S1024x1024 .bf16) (harg9 : arg9.IsWhole)

  (g0 : ¬guardSigns i) (g1 : guardRows i) (g2 : guardPairs i) (g3 : guardCols i) (x0 x1 : Vec F S512x1024 .f32)
  (h : Vec F S256x256 .bf16) (u0 u1 : Vec F S1024x1024 .bf16)

/-- Point 1 completes the row transform of the real part, whose first 512 rows it found done. -/
theorem run1_rows0 (hi : (i 0).val = 1) (x : Vec F S512x1024 .f32)
    (hu : ∀ y : S1024x1024.Idx, (y 0).val < 512 → u0 y = rowTransform h x x0 y) :
    arg6.view.read (Elt F) (arg6.view.writes (Elt F) (harg6.unread u0) (run1 c i arg1 harg1 arg2 harg2 arg3 harg3 arg4 harg4 arg5 harg5 arg6 harg6 arg7 harg7 arg8 harg8 arg9 harg9 g0 g1 g2 g3 x0 x1 h u0 u1).2.2.1) = (rowTransform h x x0) := by
  have e0 : 512 * (i 0).val = 512 := by rw [hi]
  funext y
  unfold run1; dsimp only; sl_unfold_run_names
  by_cases hy : (y 0).val < 512
  · refine (read_four_cols_above arg6.view _ 512 (by rw [off1_eq, e0]) (by rw [off2_eq, e0]) (by rw [off3_eq, e0]) (by rw [off4_eq, e0])
      _ _ _ _ _ _ _ _ y hy).trans ?_
    rw [harg6.read_unread, hu y hy]
  · rw [rowTransform_high _ _ _ _ (by omega)]
    rw [View.readAt_full, View.readAt_full, harg5.read_unread, harg1.read_unread]
    have hy' : (y 0).val < 1024 := (y 0).isLt
    exact read_four_cols arg6.view _ 512 (by rw [off1_eq, e0]) (by rw [off2_eq, e0]) (by rw [off3_eq, e0]) (by rw [off4_eq, e0])
      _ _ _ _ (rowGroup h x0) y ⟨(y 0).val - 512, by omega⟩ (by show (y 0).val = 512 + ((y 0).val - 512); omega)

/-- Point 1 leaves the combined row groups of the real part. -/
theorem run1_pairs0 (hi : (i 0).val = 1) (x : Vec F S512x1024 .f32)
    (hu : ∀ y : S1024x1024.Idx, (y 0).val < 512 → u0 y = rowTransform h x x0 y) (f : arg8.view.ty.Contents (Elt F)) :
    arg8.view.read (Elt F) (arg8.view.writes (Elt F) f (run1 c i arg1 harg1 arg2 harg2 arg3 harg3 arg4 harg4 arg5 harg5 arg6 harg6 arg7 harg7 arg8 harg8 arg9 harg9 g0 g1 g2 g3 x0 x1 h u0 u1).2.2.2.2.1) = pairs (rowTransform h x x0) := by
  have hU := run1_rows0 c i arg1 harg1 arg2 harg2 arg3 harg3 arg4 harg4 arg5 harg5 arg6 harg6 arg7 harg7 arg8 harg8 arg9 harg9 g0 g1 g2 g3 x0 x1 h u0 u1 hi x hu
  funext y
  revert hU
  unfold run1; dsimp only; sl_unfold_run_names
  intro hU
  have l0 := load_group arg6.view _ _ hU 0 (by norm_num) rfl
  have l1 := load_group arg6.view _ _ hU 1 (by norm_num) rfl
  have l2 := load_group arg6.view _ _ hU 2 (by norm_num) rfl
  have l3 := load_group arg6.view _ _ hU 3 (by norm_num) rfl
  rw [l0, l1, l2, l3]
  exact read_four_rows arg8.view f rfl rfl rfl rfl _ _ _ _ (pairGroup (rowTransform h x x0)) y

/-- At point 1 the real part's buffer is left at the block of the results with the sign of that point. -/
theorem run1_block0 (hi : (i 0).val = 1) (x : Vec F S512x1024 .f32)
    (hu : ∀ y : S1024x1024.Idx, (y 0).val < 512 → u0 y = rowTransform h x x0 y) (f : arg3.view.ty.Contents (Elt F)) :
    arg3.view.read (Elt F) (arg3.view.writes (Elt F) f (run1 c i arg1 harg1 arg2 harg2 arg3 harg3 arg4 harg4 arg5 harg5 arg6 harg6 arg7 harg7 arg8 harg8 arg9 harg9 g0 g1 g2 g3 x0 x1 h u0 u1).1)
      = colBlock h (k0_pay39 (BitVec.ofNat 32 (i 0).val)) (pairs (rowTransform h x x0)) := by
  have hA := run1_pairs0 c i arg1 harg1 arg2 harg2 arg3 harg3 arg4 harg4 arg5 harg5 arg6 harg6 arg7 harg7 arg8 harg8 arg9 harg9 g0 g1 g2 g3 x0 x1 h u0 u1 hi x hu arg8.view.junk
  funext y
  revert hA
  unfold run1; dsimp only; sl_unfold_run_names
  intro hA
  have l0 := load_group arg8.view _ _ hA 0 (by norm_num) (off5_0_eq i)
  have l1 := load_group arg8.view _ _ hA 1 (by norm_num) (off5_1_eq i)
  have l2 := load_group arg8.view _ _ hA 2 (by norm_num) (off6_0_eq i)
  have l3 := load_group arg8.view _ _ hA 3 (by norm_num) (off6_1_eq i)
  unfold View.readCov
  rw [l0, l1, l2, l3, View.readAt_full, harg5.read_unread, sign_second i]
  exact read_two_rows arg3.view f rfl rfl _ _ (colGroup h (k0_pay39 (BitVec.ofNat 32 (i 0).val)) (pairs (rowTransform h x x0))) y

/-- Point 1 completes the row transform of the imaginary part, whose first 512 rows it found done. -/
theorem run1_rows1 (hi : (i 0).val = 1) (x : Vec F S512x1024 .f32)
    (hu : ∀ y : S1024x1024.Idx, (y 0).val < 512 → u1 y = rowTransform h x x1 y) :
    arg7.view.read (Elt F) (arg7.view.writes (Elt F) (harg7.unread u1) (run1 c i arg1 harg1 arg2 harg2 arg3 harg3 arg4 harg4 arg5 harg5 arg6 harg6 arg7 harg7 arg8 harg8 arg9 harg9 g0 g1 g2 g3 x0 x1 h u0 u1).2.2.2.1) = (rowTransform h x x1) := by
  have e0 : 512 * (i 0).val = 512 := by rw [hi]
  funext y
  unfold run1; dsimp only; sl_unfold_run_names
  by_cases hy : (y 0).val < 512
  · refine (read_four_cols_above arg7.view _ 512 (by rw [off1_eq, e0]) (by rw [off2_eq, e0]) (by rw [off3_eq, e0]) (by rw [off4_eq, e0])
      _ _ _ _ _ _ _ _ y hy).trans ?_
    rw [harg7.read_unread, hu y hy]
  · rw [rowTransform_high _ _ _ _ (by omega)]
    rw [View.readAt_full, View.readAt_full, harg5.read_unread, harg2.read_unread]
    have hy' : (y 0).val < 1024 := (y 0).isLt
    exact read_four_cols arg7.view _ 512 (by rw [off1_eq, e0]) (by rw [off2_eq, e0]) (by rw [off3_eq, e0]) (by rw [off4_eq, e0])
      _ _ _ _ (rowGroup h x1) y ⟨(y 0).val - 512, by omega⟩ (by show (y 0).val = 512 + ((y 0).val - 512); omega)

/-- Point 1 leaves the combined row groups of the imaginary part. -/
theorem run1_pairs1 (hi : (i 0).val = 1) (x : Vec F S512x1024 .f32)
    (hu : ∀ y : S1024x1024.Idx, (y 0).val < 512 → u1 y = rowTransform h x x1 y) (f : arg9.view.ty.Contents (Elt F)) :
    arg9.view.read (Elt F) (arg9.view.writes (Elt F) f (run1 c i arg1 harg1 arg2 harg2 arg3 harg3 arg4 harg4 arg5 harg5 arg6 harg6 arg7 harg7 arg8 harg8 arg9 harg9 g0 g1 g2 g3 x0 x1 h u0 u1).2.2.2.2.2.1) = pairs (rowTransform h x x1) := by
  have hU := run1_rows1 c i arg1 harg1 arg2 harg2 arg3 harg3 arg4 harg4 arg5 harg5 arg6 harg6 arg7 harg7 arg8 harg8 arg9 harg9 g0 g1 g2 g3 x0 x1 h u0 u1 hi x hu
  funext y
  revert hU
  unfold run1; dsimp only; sl_unfold_run_names
  intro hU
  have l0 := load_group arg7.view _ _ hU 0 (by norm_num) rfl
  have l1 := load_group arg7.view _ _ hU 1 (by norm_num) rfl
  have l2 := load_group arg7.view _ _ hU 2 (by norm_num) rfl
  have l3 := load_group arg7.view _ _ hU 3 (by norm_num) rfl
  rw [l0, l1, l2, l3]
  exact read_four_rows arg9.view f rfl rfl rfl rfl _ _ _ _ (pairGroup (rowTransform h x x1)) y

/-- At point 1 the imaginary part's buffer is left at the block of the results with the sign of that point. -/
theorem run1_block1 (hi : (i 0).val = 1) (x : Vec F S512x1024 .f32)
    (hu : ∀ y : S1024x1024.Idx, (y 0).val < 512 → u1 y = rowTransform h x x1 y) (f : arg4.view.ty.Contents (Elt F)) :
    arg4.view.read (Elt F) (arg4.view.writes (Elt F) f (run1 c i arg1 harg1 arg2 harg2 arg3 harg3 arg4 harg4 arg5 harg5 arg6 harg6 arg7 harg7 arg8 harg8 arg9 harg9 g0 g1 g2 g3 x0 x1 h u0 u1).2.1)
      = colBlock h (k0_pay39 (BitVec.ofNat 32 (i 0).val)) (pairs (rowTransform h x x1)) := by
  have hA := run1_pairs1 c i arg1 harg1 arg2 harg2 arg3 harg3 arg4 harg4 arg5 harg5 arg6 harg6 arg7 harg7 arg8 harg8 arg9 harg9 g0 g1 g2 g3 x0 x1 h u0 u1 hi x hu arg9.view.junk
  funext y
  revert hA
  unfold run1; dsimp only; sl_unfold_run_names
  intro hA
  have l0 := load_group arg9.view _ _ hA 0 (by norm_num) (off5_0_eq i)
  have l1 := load_group arg9.view _ _ hA 1 (by norm_num) (off5_1_eq i)
  have l2 := load_group arg9.view _ _ hA 2 (by norm_num) (off6_0_eq i)
  have l3 := load_group arg9.view _ _ hA 3 (by norm_num) (off6_1_eq i)
  unfold View.readCov
  rw [l0, l1, l2, l3, View.readAt_full, harg5.read_unread, sign_second i]
  exact read_two_rows arg4.view f rfl rfl _ _ (colGroup h (k0_pay39 (BitVec.ofNat 32 (i 0).val)) (pairs (rowTransform h x x1))) y

end Cert.KernelIdeal.Wht

end
-- ==== Proof.RunPoint2.lean ====
/- Point 2 of the kernel, run: the body transforms the columns and writes the second half of the results. -/
module

public import proofs.«01_k».proof.Proof.RunPoint1

@[expose] public section

set_option maxRecDepth 16384

noncomputable section

namespace Cert.KernelIdeal.Wht

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole) (arg2 : Memref sig .tc .vmem S512x1024 .f32) (harg2 : arg2.IsWhole)
  (arg3 : Memref sig .tc .vmem S512x1024 .f32) (harg3 : arg3.IsWhole) (arg4 : Memref sig .tc .vmem S512x1024 .f32) (harg4 : arg4.IsWhole)
  (arg5 : Memref sig .tc .vmem S256x256 .bf16) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1024x1024 .bf16) (harg8 : arg8.IsWhole) (arg9 : Memref sig .tc .vmem S1024x1024 .bf16) (harg9 : arg9.IsWhole)

set_option maxHeartbeats 2000000 in
/-- The body at point 2, from the sign matrix `h` and the paired sums `a0`, `a1`: what it stores into the results'
    buffers, as lists of stores, with the proof that it ends having made them and having left everything else alone. -/
def run2 (g0 : ¬guardSigns i) (g1 : ¬guardRows i) (g2 : ¬guardPairs i) (g3 : guardCols i)
    (h : Vec F S256x256 .bf16) (a0 a1 : Vec F S1024x1024 .bf16) :
    Σ' (LO0 : List (View.Piece (Elt F) S512x1024 .f32)), { LO1 : List (View.Piece (Elt F) S512x1024 .f32) //
      ∀ (E : Set ℕ) (K : PUnit → sProp 𝕄),
        iprop((∃ d, owns (c : Thread nD τ) arg3 fullShare d) ∗ (∃ d, owns (c : Thread nD τ) arg4 fullShare d)
            ∗ owns (c : Thread nD τ) arg5 fullShare h ∗ owns (c : Thread nD τ) arg8 fullShare a0 ∗ owns (c : Thread nD τ) arg9 fullShare a1
            ∗ (iprop((∃ f, arg3.view.loc (c : Thread nD τ) ↦[arg3.view.set]{fullShare} arg3.view.writes (Elt F) f LO0)
                ∗ (∃ f, arg4.view.loc (c : Thread nD τ) ↦[arg4.view.set]{fullShare} arg4.view.writes (Elt F) f LO1)
                ∗ owns (c : Thread nD τ) arg5 fullShare h ∗ owns (c : Thread nD τ) arg8 fullShare a0 ∗ owns (c : Thread nD τ) arg9 fullShare a1) -∗ K ⟨⟩))
          ⊢ wp frame (wpE (defs₀ (F := F)) Variants.none c none) E
              (cc0__wht_kernel i arg1 harg1 arg2 harg2 arg3 harg3 arg4 harg4 arg5 harg5 arg6 harg6 arg7 harg7 arg8 harg8 arg9 harg9) K } := by
  refine ⟨?_, ?_, fun E K => ?run⟩
  case run =>
    simp only [cc0__wht_kernel_eq_skeleton]; unfold cc0__wht_kernel_skel
    simp only [k0_part3_eq_skeleton, k0_part4_eq_skeleton]
    unfold owns
    iintro ⟨⟨%d2, %f2, -, H2⟩, ⟨%d3, %f3, -, H3⟩, ⟨%fs0, %hfs0, HS0⟩, ⟨%fs3, %hfs3, HS3⟩, ⟨%fs4, %hfs4, HS4⟩, Hk⟩
    obtain rfl := harg5.eq_unread hfs0; obtain rfl := harg8.eq_unread hfs3; obtain rfl := harg9.eq_unread hfs4
    sl_exec (disch := first | sl_exact g0 | sl_exact g1 | sl_exact g2 | sl_exact g3)
    sl_step
    iapply Hk
    isplitl [H2]; · iexists _; iexact H2
    isplitl [H3]; · iexists _; iexact H3
    isplitl [HS0]
    · iexists _; isplitr; · ipureintro; exact harg5.read_unread _
      iexact HS0
    isplitl [HS3]
    · iexists _; isplitr; · ipureintro; exact harg8.read_unread _
      iexact HS3
    iexists _; isplitr; · ipureintro; exact harg9.read_unread _
    iexact HS4

end Cert.KernelIdeal.Wht

end
-- ==== Proof.LeftPoint2.lean ====
/- What point 2 leaves: the second block of each result. -/
module

public import proofs.«01_k».proof.Proof.Blocks
public import proofs.«01_k».proof.Proof.RunPoint2

@[expose] public section

set_option maxRecDepth 16384

noncomputable section

namespace Cert.KernelIdeal.Wht

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

variable (c : Dev nD) (i : grid0.Coords)
  (arg1 : Memref sig .tc .vmem S512x1024 .f32) (harg1 : arg1.IsWhole) (arg2 : Memref sig .tc .vmem S512x1024 .f32) (harg2 : arg2.IsWhole)
  (arg3 : Memref sig .tc .vmem S512x1024 .f32) (harg3 : arg3.IsWhole) (arg4 : Memref sig .tc .vmem S512x1024 .f32) (harg4 : arg4.IsWhole)
  (arg5 : Memref sig .tc .vmem S256x256 .bf16) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1024x1024 .bf16) (harg8 : arg8.IsWhole) (arg9 : Memref sig .tc .vmem S1024x1024 .bf16) (harg9 : arg9.IsWhole)

  (g0 : ¬guardSigns i) (g1 : ¬guardRows i) (g2 : ¬guardPairs i) (g3 : guardCols i)
  (h : Vec F S256x256 .bf16) (a0 a1 : Vec F S1024x1024 .bf16)

/-- At point 2 the real part's buffer is left at the block of the results with the sign of that point. -/
theorem run2_block0 (f : arg3.view.ty.Contents (Elt F)) :
    arg3.view.read (Elt F) (arg3.view.writes (Elt F) f (run2 c i arg1 harg1 arg2 harg2 arg3 harg3 arg4 harg4 arg5 harg5 arg6 harg6 arg7 harg7 arg8 harg8 arg9 harg9 g0 g1 g2 g3 h a0 a1).1)
      = colBlock h (k0_pay39 (BitVec.ofNat 32 (i 0).val)) a0 := by
  funext y
  unfold run2; dsimp only; sl_unfold_run_names
  rw [View.readAt_full, harg5.read_unread]
  have l0 := load_group_whole arg8 harg8 a0 0 (by norm_num) (off5_0_eq i)
  have l1 := load_group_whole arg8 harg8 a0 1 (by norm_num) (off5_1_eq i)
  have l2 := load_group_whole arg8 harg8 a0 2 (by norm_num) (off6_0_eq i)
  have l3 := load_group_whole arg8 harg8 a0 3 (by norm_num) (off6_1_eq i)
  rw [l0, l1, l2, l3, sign_second i]
  exact read_two_rows arg3.view f rfl rfl _ _ (colGroup h (k0_pay39 (BitVec.ofNat 32 (i 0).val)) a0) y

/-- At point 2 the imaginary part's buffer is left at the block of the results with the sign of that point. -/
theorem run2_block1 (f : arg4.view.ty.Contents (Elt F)) :
    arg4.view.read (Elt F) (arg4.view.writes (Elt F) f (run2 c i arg1 harg1 arg2 harg2 arg3 harg3 arg4 harg4 arg5 harg5 arg6 harg6 arg7 harg7 arg8 harg8 arg9 harg9 g0 g1 g2 g3 h a0 a1).2.1)
      = colBlock h (k0_pay39 (BitVec.ofNat 32 (i 0).val)) a1 := by
  funext y
  unfold run2; dsimp only; sl_unfold_run_names
  rw [View.readAt_full, harg5.read_unread]
  have l0 := load_group_whole arg9 harg9 a1 0 (by norm_num) (off5_0_eq i)
  have l1 := load_group_whole arg9 harg9 a1 1 (by norm_num) (off5_1_eq i)
  have l2 := load_group_whole arg9 harg9 a1 2 (by norm_num) (off6_0_eq i)
  have l3 := load_group_whole arg9 harg9 a1 3 (by norm_num) (off6_1_eq i)
  rw [l0, l1, l2, l3, sign_second i]
  exact read_two_rows arg4.view f rfl rfl _ _ (colGroup h (k0_pay39 (BitVec.ofNat 32 (i 0).val)) a1) y

end Cert.KernelIdeal.Wht

end
-- ==== Proof.Region.lean ====
/- The kernel's three points together: what its own buffers hold between them, and the run of the program. -/
module

public import proofs.«01_k».proof.Proof.LeftPoint0
public import proofs.«01_k».proof.Proof.LeftPoint1
public import proofs.«01_k».proof.Proof.LeftPoint2
public import Idealize.ShloMosaic.Lib.Claim

@[expose] public section

set_option maxRecDepth 16384

noncomputable section

namespace Cert.KernelIdeal.Wht

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between the points -/

/-- The block of 512 rows of the real part that point `t` is handed. -/
def realBlock (c : Dev nD) (t : Fin cfg0.N) : Vec F S512x1024 .f32 := iblk m c 0 t
/-- The block of 512 rows of the imaginary part that point `t` is handed. -/
def imagBlock (c : Dev nD) (t : Fin cfg0.N) : Vec F S512x1024 .f32 := iblk m c 1 t

/-- The row transform of the real part. -/
def realRows (c : Dev nD) : Vec F S1024x1024 .bf16 := rowTransform signs (realBlock m c t0_0) (realBlock m c t0_1)
/-- The row transform of the imaginary part. -/
def imagRows (c : Dev nD) : Vec F S1024x1024 .bf16 := rowTransform signs (imagBlock m c t0_0) (imagBlock m c t0_1)

/-- The block of the real part of the result that point `t` writes. -/
def realOut (c : Dev nD) (t : Fin cfg0.N) : Vec F S512x1024 .f32 :=
  colBlock signs (k0_pay39 (BitVec.ofNat 32 (grid0.coords t 0).val)) (pairs (realRows m c))
/-- The block of the imaginary part of the result that point `t` writes. -/
def imagOut (c : Dev nD) (t : Fin cfg0.N) : Vec F S512x1024 .f32 :=
  colBlock signs (k0_pay39 (BitVec.ofNat 32 (grid0.coords t 0).val)) (pairs (imagRows m c))

/-- What the kernel's own buffers hold between points 0 and 1: the signs and the first 512 rows of the row transforms. -/
def afterPoint0 (c : Dev nD) : sProp 𝕄 :=
  iprop(owns (c : Thread nD τ) bufH fullShare signs
      ∗ (∃ u, ⌜∀ y : S1024x1024.Idx, (y 0).val < 512 → u y = realRows m c y⌝ ∗ owns (c : Thread nD τ) bufU0 fullShare u)
      ∗ (∃ u, ⌜∀ y : S1024x1024.Idx, (y 0).val < 512 → u y = imagRows m c y⌝ ∗ owns (c : Thread nD τ) bufU1 fullShare u)
      ∗ (∃ d, owns (c : Thread nD τ) bufA0 fullShare d) ∗ (∃ d, owns (c : Thread nD τ) bufA1 fullShare d)
      ∗ (∃ r, prngReg c r))

/-- What they hold from point 1 on: the signs and the combined row groups. -/
def afterPoint1 (c : Dev nD) : sProp 𝕄 :=
  iprop(owns (c : Thread nD τ) bufH fullShare signs
      ∗ (∃ d, owns (c : Thread nD τ) bufU0 fullShare d) ∗ (∃ d, owns (c : Thread nD τ) bufU1 fullShare d)
      ∗ owns (c : Thread nD τ) bufA0 fullShare (pairs (realRows m c)) ∗ owns (c : Thread nD τ) bufA1 fullShare (pairs (imagRows m c))
      ∗ (∃ r, prngReg c r))

/-- What they hold before point `n`: before point 0 anything. -/
def between (c : Dev nD) : ℕ → sProp 𝕄
  | 0 => Pipeline.ΦA spec0 c
  | 1 => afterPoint0 m c
  | _ => afterPoint1 m c

/-- The data of the proof: the arrays as the region finds them, what each point leaves in each window's buffer, and what
    the kernel's own buffers hold between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => realOut m c t
    | ⟨3, _⟩ => imagOut m c t
  Φ t := between m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = realOut m c t := by dsimp only [dats]
theorem after3 (c : Dev nD) (t : Fin cfg0.N) : (dats m 0 c).after 3 t = imagOut m c t := by dsimp only [dats]
/-- An input's buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## One point -/

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d)))
/-- What it leaves there. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

/-- The inputs' buffers are left at their blocks. -/
theorem leaves0 (c : Dev nD) (t : Fin cfg0.N) :
    (dats m 0 c).leavesExact 0 t = owns (c : Thread nD τ) (stage0 t) fullShare (iblk m c 0 t) := by
  unfold Dat.leavesExact; rw [live_in0 t, after0]
theorem leaves1 (c : Dev nD) (t : Fin cfg0.N) :
    (dats m 0 c).leavesExact 1 t = owns (c : Thread nD τ) (stage1 t) fullShare (iblk m c 1 t) := by
  unfold Dat.leavesExact; rw [live_in1 t, after1]
/-- The results' buffers are left at their blocks from point 1 on. -/
theorem leaves2 (c : Dev nD) (t : Fin cfg0.N) (ht : 1 ≤ t.val) :
    (dats m 0 c).leavesExact 2 t = owns (c : Thread nD τ) (stage2 t) fullShare (realOut m c t) := by
  unfold Dat.leavesExact; rw [live_out2 t ht, after2]
theorem leaves3 (c : Dev nD) (t : Fin cfg0.N) (ht : 1 ≤ t.val) :
    (dats m 0 c).leavesExact 3 t = owns (c : Thread nD τ) (stage3 t) fullShare (imagOut m c t) := by
  unfold Dat.leavesExact; rw [live_out3 t ht, after3]

theorem before_point (c : Dev nD) (t : Fin cfg0.N) : (dats m 0 c).Φ t.castSucc = between m c t.val := by dsimp only [dats]; rfl
theorem after_point (c : Dev nD) (t : Fin cfg0.N) : (dats m 0 c).Φ t.succ = between m c (t.val + 1) := by dsimp only [dats]; rfl

/-- The grid's coordinate of a point is the point's number. -/
theorem coord_eq : ∀ t : Fin cfg0.N, (grid0.coords t 0).val = t.val :=
  (by decide +kernel : ∀ t : Fin grid0.N, (grid0.coords t 0).val = t.val)

set_option maxHeartbeats 1600000 in
/-- The body at point 0. -/
theorem body_point0 (c : Dev nD) (t : Fin cfg0.N) (ht : t = t0_0) :
    bodyPre m c t ⊢ wp frame (wpE (defs₀ (F := F)) Variants.none c none) Set.univ (bodyAt0 t) (fun _ => bodyPost m c t) := by
  have h0 : t.val = 0 := by rw [ht]; rfl
  have hi : (grid0.coords t 0).val = 0 := (coord_eq t).trans h0
  have hr : realBlock m c t0_0 = iblk m c 0 t := by rw [ht]; rfl
  have hm : imagBlock m c t0_0 = iblk m c 1 t := by rw [ht]; rfl
  have g0 := (guardSigns_iff t).mpr h0
  have g1 := (guardRows_iff t).mpr (by omega)
  have g2 : ¬guardPairs (grid0.coords t) := fun h => by have := (guardPairs_iff t).mp h; omega
  have g3 : ¬guardCols (grid0.coords t) := fun h => by have := (guardCols_iff t).mp h; omega
  unfold bodyPre bodyPost bodyAt0
  simp only [before0, before1]
  rw [show (dats m 0 c).owesAt () t.succ = (dats m 0 c).owesAt () t.castSucc from rfl, before_point, after_point, h0, leaves0, leaves1,
    Dat.leavesExact_idle (dats m 0 c) 2 t (idle_out2 t h0).1 (idle_out2 t h0).2, Dat.leavesExact_idle (dats m 0 c) 3 t (idle_out3 t h0).1 (idle_out3 t h0).2]
  rw [show between m c 0 = Pipeline.ΦA spec0 c from rfl, launch_state, show between m c (0 + 1) = afterPoint0 m c from rfl]
  unfold afterPoint0
  iintro ⟨⟨⟨⟨%e0, HS0⟩, ⟨%e1, HS1⟩, ⟨%e2, HS2⟩, HS3, HS4⟩, Hg⟩, Ho, ⟨%d0, H0⟩, ⟨%d1, H1⟩, H2, H3⟩
  iapply ((run0 c (grid0.coords t) _ _ _ _ _ _ _ _ _ _ _ _ _ _ _ _ _ _ g0 g1 g2 g3 (iblk m c 0 t) (iblk m c 1 t)).2.2.2 Set.univ _)
  isplitl [H0]; · iexact H0
  isplitl [H1]; · iexact H1
  isplitl [HS0]; · iexists _; iexact HS0
  isplitl [HS1]; · iexists _; iexact HS1
  isplitl [HS2]; · iexists _; iexact HS2
  iintro ⟨H0, H1, ⟨%f0, HS0⟩, ⟨%f1, HS1⟩, ⟨%f2, HS2⟩⟩
  isplitl [HS0 HS1 HS2 HS3 HS4 Hg]
  · isplitl [HS0]
    · unfold owns; iexists _; isplitr
      swap; · iexact HS0
      ipureintro; exact run0_signs c _ _ _ _ _ _ _ _ _ _ _ _ _ _ _ _ _ _ _ g0 g1 g2 g3 _ _ _
    isplitl [HS1]
    · iexists _; isplitr
      swap
      · unfold owns; iexists _; isplitr
        swap; · iexact HS1
        ipureintro; rfl
      ipureintro; intro y hy
      unfold realRows; rw [hr]
      exact run0_rows0 c _ _ _ _ _ _ _ _ _ _ _ _ _ _ _ _ _ _ _ g0 g1 g2 g3 _ _ hi _ _ y hy
    isplitl [HS2]
    · iexists _; isplitr
      swap
      · unfold owns; iexists _; isplitr
        swap; · iexact HS2
        ipureintro; rfl
      ipureintro; intro y hy
      unfold imagRows; rw [hm]
      exact run0_rows1 c _ _ _ _ _ _ _ _ _ _ _ _ _ _ _ _ _ _ _ g0 g1 g2 g3 _ _ hi _ _ y hy
    isplitl [HS3]; · iexact HS3
    isplitl [HS4]; · iexact HS4
    iexact Hg
  isplitl [Ho]; · iexact Ho
  isplitl [H0]; · iexact H0
  isplitl [H1]; · iexact H1
  isplitl [H2]; · iexact H2
  iexact H3

set_option maxHeartbeats 1600000 in
/-- The body at point 1. -/
theorem body_point1 (c : Dev nD) (t : Fin cfg0.N) (ht : t = t0_1) :
    bodyPre m c t ⊢ wp frame (wpE (defs₀ (F := F)) Variants.none c none) Set.univ (bodyAt0 t) (fun _ => bodyPost m c t) := by
  have h1 : t.val = 1 := by rw [ht]; rfl
  have hi : (grid0.coords t 0).val = 1 := (coord_eq t).trans h1
  have hr : realRows m c = rowTransform signs (realBlock m c t0_0) (iblk m c 0 t) := by rw [ht]; rfl
  have hm : imagRows m c = rowTransform signs (imagBlock m c t0_0) (iblk m c 1 t) := by rw [ht]; rfl
  have g0 : ¬guardSigns (grid0.coords t) := fun h => by have := (guardSigns_iff t).mp h; omega
  have g1 := (guardRows_iff t).mpr (by omega)
  have g2 := (guardPairs_iff t).mpr h1
  have g3 := (guardCols_iff t).mpr (by omega)
  unfold bodyPre bodyPost bodyAt0
  simp only [before0, before1]
  rw [show (dats m 0 c).owesAt () t.succ = (dats m 0 c).owesAt () t.castSucc from rfl, before_point, after_point, h1, leaves0, leaves1,
    leaves2 m c t (by omega), leaves3 m c t (by omega)]
  rw [show between m c 1 = afterPoint0 m c from rfl, show between m c (1 + 1) = afterPoint1 m c from rfl]
  unfold afterPoint0 afterPoint1
  unfold realOut imagOut
  rw [hr, hm]
  iintro ⟨⟨HS0, ⟨%u0, %hu0, HS1⟩, ⟨%u1, %hu1, HS2⟩, HS3, HS4, Hg⟩, Ho, ⟨%d0, H0⟩, ⟨%d1, H1⟩, ⟨%d2, H2⟩, ⟨%d3, H3⟩⟩
  iapply ((run1 c (grid0.coords t) _ _ _ _ _ _ _ _ _ _ _ _ _ _ _ _ _ _ g0 g1 g2 g3 (iblk m c 0 t) (iblk m c 1 t) signs u0 u1).2.2.2.2.2.2 Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  isplitl [HS2]; · iexact HS2
  isplitl [HS3]; · iexact HS3
  isplitl [HS4]; · iexact HS4
  iintro ⟨H0, H1, ⟨%f2, H2⟩, ⟨%f3, H3⟩, HS0, HS1, HS2, ⟨%f4, HS3⟩, ⟨%f5, HS4⟩⟩
  isplitl [HS0 HS1 HS2 HS3 HS4 Hg]
  · isplitl [HS0]; · iexact HS0
    isplitl [HS1]
    · iexists _; unfold owns; iexists _; isplitr
      swap; · iexact HS1
      ipureintro; rfl
    isplitl [HS2]
    · iexists _; unfold owns; iexists _; isplitr
      swap; · iexact HS2
      ipureintro; rfl
    isplitl [HS3]
    · unfold owns; iexists _; isplitr
      swap; · iexact HS3
      ipureintro; exact run1_pairs0 c _ _ _ _ _ _ _ _ _ _ _ _ _ _ _ _ _ _ _ g0 g1 g2 g3 _ _ _ _ _ hi _ hu0 _
    isplitl [HS4]
    · unfold owns; iexists _; isplitr
      swap; · iexact HS4
      ipureintro; exact run1_pairs1 c _ _ _ _ _ _ _ _ _ _ _ _ _ _ _ _ _ _ _ g0 g1 g2 g3 _ _ _ _ _ hi _ hu1 _
    iexact Hg
  isplitl [Ho]; · iexact Ho
  isplitl [H0]; · iexact H0
  isplitl [H1]; · iexact H1
  isplitl [H2]
  · unfold owns; iexists _; isplitr
    swap; · iexact H2
    ipureintro; exact run1_block0 c _ _ _ _ _ _ _ _ _ _ _ _ _ _ _ _ _ _ _ g0 g1 g2 g3 _ _ _ _ _ hi _ hu0 _
  unfold owns; iexists _; isplitr
  swap; · iexact H3
  ipureintro; exact run1_block1 c _ _ _ _ _ _ _ _ _ _ _ _ _ _ _ _ _ _ _ g0 g1 g2 g3 _ _ _ _ _ hi _ hu1 _

set_option maxHeartbeats 1600000 in
/-- The body at point 2. -/
theorem body_point2 (c : Dev nD) (t : Fin cfg0.N) (ht : t = t0_2) :
    bodyPre m c t ⊢ wp frame (wpE (defs₀ (F := F)) Variants.none c none) Set.univ (bodyAt0 t) (fun _ => bodyPost m c t) := by
  have h2 : t.val = 2 := by rw [ht]; rfl
  have g0 : ¬guardSigns (grid0.coords t) := fun h => by have := (guardSigns_iff t).mp h; omega
  have g1 : ¬guardRows (grid0.coords t) := fun h => by have := (guardRows_iff t).mp h; omega
  have g2 : ¬guardPairs (grid0.coords t) := fun h => by have := (guardPairs_iff t).mp h; omega
  have g3 := (guardCols_iff t).mpr (by omega)
  unfold bodyPre bodyPost bodyAt0
  simp only [before0, before1]
  rw [show (dats m 0 c).owesAt () t.succ = (dats m 0 c).owesAt () t.castSucc from rfl, before_point, after_point, h2, leaves0, leaves1,
    leaves2 m c t (by omega), leaves3 m c t (by omega)]
  rw [show between m c 2 = afterPoint1 m c from rfl, show between m c (2 + 1) = afterPoint1 m c from rfl]
  unfold afterPoint1
  unfold realOut imagOut
  iintro ⟨⟨HS0, HS1, HS2, HS3, HS4, Hg⟩, Ho, ⟨%d0, H0⟩, ⟨%d1, H1⟩, ⟨%d2, H2⟩, ⟨%d3, H3⟩⟩
  iapply ((run2 c (grid0.coords t) _ _ _ _ _ _ _ _ _ _ _ _ _ _ _ _ _ _ g0 g1 g2 g3 signs (pairs (realRows m c)) (pairs (imagRows m c))).2.2 Set.univ _)
  isplitl [H2]; · iexists _; iexact H2
  isplitl [H3]; · iexists _; iexact H3
  isplitl [HS0]; · iexact HS0
  isplitl [HS3]; · iexact HS3
  isplitl [HS4]; · iexact HS4
  iintro ⟨⟨%f2, H2⟩, ⟨%f3, H3⟩, HS0, HS3, HS4⟩
  isplitl [HS0 HS1 HS2 HS3 HS4 Hg]
  · isplitl [HS0]; · iexact HS0
    isplitl [HS1]; · iexact HS1
    isplitl [HS2]; · iexact HS2
    isplitl [HS3]; · iexact HS3
    isplitl [HS4]; · iexact HS4
    iexact Hg
  isplitl [Ho]; · iexact Ho
  isplitl [H0]; · iexact H0
  isplitl [H1]; · iexact H1
  isplitl [H2]
  · unfold owns; iexists _; isplitr
    swap; · iexact H2
    ipureintro; exact run2_block0 c _ _ _ _ _ _ _ _ _ _ _ _ _ _ _ _ _ _ _ g0 g1 g2 g3 _ _ _ _
  unfold owns; iexists _; isplitr
  swap; · iexact H3
  ipureintro; exact run2_block1 c _ _ _ _ _ _ _ _ _ _ _ _ _ _ _ _ _ _ _ g0 g1 g2 g3 _ _ _ _

/-! ## The run -/

/-- The body at any point. -/
theorem body_point (c : Dev nD) (t : Fin cfg0.N) :
    bodyPre m c t ⊢ wp frame (wpE (defs₀ (F := F)) Variants.none c none) Set.univ (bodyAt0 t) (fun _ => bodyPost m c t) := by
  have hN : t.val < 3 := lt_of_lt_of_eq t.isLt (show cfg0.N = 3 from N_0)
  rcases (by omega : t.val = 0 ∨ t.val = 1 ∨ t.val = 2) with h | h | h
  · exact body_point0 m c t (Fin.ext h)
  · exact body_point1 m c t (Fin.ext h)
  · exact body_point2 m c t (Fin.ext h)

theorem defs₀_row (t : Fin cfg0.N) : defs₀ (F := F) .tc cfg0.body (cfg0.bodyArgs t (cfg0.slots t)) = bodyAt0 t := by
  unfold defs₀; rw [Defs.onTc_tc]

/-- The body's obligation of the launch. -/
theorem body_obligation (c : Dev nD) : BodyObligation (dats (F := F) m 0 c) (defs₀ (F := F)) Variants.none () Set.univ := fun t => by
  rw [bigSep_W0, bigSep_W0, defs₀_row]
  exact triple_restated (body_point m c t) rfl .rfl fun _ => .rfl

/-- What the launch hands the region is what the first point expects. -/
theorem hin (c : Dev nD) : Pipeline.ΦA spec0 c ⊢ (dats m 0 c).Φ 0 := .rfl

/-- What the last point leaves is what the launch takes back. -/
theorem hout (c : Dev nD) : (dats m 0 c).Φ (Fin.last cfg0.N) ⊢ Pipeline.ΦA spec0 c := by
  rw [show (dats m 0 c).Φ (Fin.last cfg0.N) = afterPoint1 m c from by
    dsimp only [dats]; rw [Fin.val_last, show cfg0.N = 3 from N_0]; rfl, launch_state]
  unfold afterPoint1
  iintro ⟨HS0, HS1, HS2, HS3, HS4, Hg⟩
  isplitl [HS0 HS1 HS2 HS3 HS4]
  · isplitl [HS0]; · iexists _; iexact HS0
    isplitl [HS1]; · iexact HS1
    isplitl [HS2]; · iexact HS2
    isplitl [HS3]; · iexists _; iexact HS3
    iexists _; iexact HS4
  iexact Hg

set_option backward.isDefEq.respectTransparency.types false in
set_option maxHeartbeats 800000 in
/-- The program runs: every array ends at what the points wrote back to it, every other buffer at what the lines after
    the launch compute from them, and every semaphore at 0. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run's two frames at once: the arguments end unchanged and the semaphores at 0. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Wht

end
-- ==== Proof.Frames.lean ====
/- The two programs' frames: each runs to the end, leaves its arguments as they were, and leaves every semaphore at 0. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Region

@[expose] public section

noncomputable section

namespace Cert.Proof

open Idealize.ShloMosaic Idealize.SL.Sem

/-- The side conditions of the precondition `finite`: a scalar spreads over the array, and the array reduces to one. -/
instance preFacts : Cert.Pre_finite.Facts where
  bcast_S_S1048576 := by decide
  reducesTo_S1048576_S_d0 := by decide
  h_S_ := by decide

/-- The kernel's frame over the extended reals: the run of `run_frame`. -/
theorem frame_kernelIdeal : Cert.quiescent_KernelIdeal := fun m ρ _ => Cert.KernelIdeal.Wht.run_frame (F := Ideal) m ρ

/-- The same frame, from arguments that are all finite. -/
theorem frame_kernelIdeal_finite : Cert.quiescent_KernelIdeal_pre_finite :=
  fun m ρ _ => Cert.KernelIdeal.Wht.run_frame (F := Ideal) m ρ

/-- The two printings of the kernel have one body. -/
theorem same_body : Cert.Kernel.defs₀ (F := Bits) = Cert.KernelIdeal.defs₀ (F := Bits) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

/-- So the two programs' labels run the same code. -/
theorem same_defs : Cert.Kernel.defs (F := Bits) = Cert.KernelIdeal.defs (F := Bits) :=
  congrArg (Pipeline.defs (Cert.KernelIdeal.pcfgs (F := Bits))) same_body

/-- The frame of the kernel at its machine floats: the two programs have one text, so it is the same run. -/
theorem frame_kernel : Cert.quiescent_Kernel := fun m ρ _ => by
  have h := (θ_run Cert.KernelIdeal.defs _ _).mono (fun _ h => h) (Cert.KernelIdeal.Wht.run_frame (F := Bits) m ρ)
  rw [← same_defs] at h
  exact h

/-- The reference's run keeps its arguments; it declares no semaphore, so every counter is 0. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The same frame, from arguments that are all finite. -/
theorem frame_reference_finite : Cert.quiescent_ReferenceIdeal_pre_finite := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

end Cert.Proof

end
-- ==== Proof.Walsh.lean ====
/- The Walsh-Hadamard sum over the reals: its signs, how a sum of 2^(a+b) terms splits into two nested ones, and the
   butterfly stages that compute it. Nothing here is about a program. -/
module

public import Mathlib.Algebra.BigOperators.Intervals
public import Mathlib.Algebra.BigOperators.Ring.Finset
public import Mathlib.Data.Real.Basic
public import Mathlib.Data.Nat.Bitwise
public import Mathlib.Tactic.Ring
public import Mathlib.Tactic.Linarith
public import Mathlib.Tactic.NormNum

@[expose] public section

noncomputable section

namespace Cert.Walsh

open Finset

/-- The sign of `n`: `−1` to the number of ones among its lowest `a` bits. -/
def sign (a n : ℕ) : ℝ := ∏ k ∈ range a, if n.testBit k then -1 else 1

/-- The Walsh-Hadamard sum of the `2^a` numbers `f 0, f 1, …` at index `j`. -/
def walsh (a : ℕ) (f : ℕ → ℝ) (j : ℕ) : ℝ := ∑ i ∈ range (2 ^ a), sign a (i &&& j) * f i

/-- One butterfly stage: index `j` is paired with the index that differs from it in bit `k`. -/
def stage (k : ℕ) (f : ℕ → ℝ) (j : ℕ) : ℝ :=
  if j.testBit k then f (j ^^^ 2 ^ k) - f j else f j + f (j ^^^ 2 ^ k)

/-- The first `n` stages, bit 0 first. -/
def stages : ℕ → (ℕ → ℝ) → ℕ → ℝ
  | 0, f => f
  | n + 1, f => stage n (stages n f)

/-- Only the lowest `a` bits matter to the sign. -/
theorem sign_congr {a m n : ℕ} (h : ∀ k < a, m.testBit k = n.testBit k) : sign a m = sign a n := by
  unfold sign
  refine prod_congr rfl fun k hk => ?_
  rw [h k (mem_range.mp hk)]

/-- The sign of a number is the product of the signs of its low and its high bits. -/
theorem sign_add (a b n : ℕ) : sign (a + b) n = sign a n * sign b (n / 2 ^ a) := by
  unfold sign
  rw [prod_range_add]
  congr 1
  refine prod_congr rfl fun k _ => ?_
  rw [Nat.testBit_div_two_pow, Nat.add_comm]

/-- A sum of `m * n` terms as `n` sums of `m` terms. -/
theorem sum_range_mul (m n : ℕ) (f : ℕ → ℝ) :
    ∑ i ∈ range (m * n), f i = ∑ r ∈ range n, ∑ c ∈ range m, f (m * r + c) := by
  induction n with
  | zero => simp
  | succ n ih => rw [Nat.mul_succ, sum_range_add, ih, sum_range_succ]

/-- Only the first `2^a` terms matter to the sum. -/
theorem walsh_congr {a : ℕ} {f g : ℕ → ℝ} (h : ∀ i < 2 ^ a, f i = g i) (j : ℕ) : walsh a f j = walsh a g j := by
  unfold walsh
  refine sum_congr rfl fun i hi => ?_
  rw [h i (mem_range.mp hi)]

/-- Only the lowest `a` bits of the index matter to the sum. -/
theorem walsh_mod (a : ℕ) (f : ℕ → ℝ) (j : ℕ) : walsh a f (j % 2 ^ a) = walsh a f j := by
  unfold walsh
  refine sum_congr rfl fun i _ => ?_
  congr 1
  refine sign_congr fun k hk => ?_
  rw [Nat.testBit_and, Nat.testBit_and, Nat.testBit_mod_two_pow, decide_eq_true hk, Bool.true_and]

/-- A sum over `a + b` bits: over the high bits, of the sums over the low ones. -/
theorem walsh_add (a b : ℕ) (f : ℕ → ℝ) (j : ℕ) :
    walsh (a + b) f j = walsh b (fun r => walsh a (fun c => f (2 ^ a * r + c)) j) (j / 2 ^ a) := by
  unfold walsh
  rw [Nat.pow_add, sum_range_mul]
  refine sum_congr rfl fun r _ => ?_
  rw [mul_sum]
  refine sum_congr rfl fun c hc => ?_
  have hc := mem_range.mp hc
  rw [sign_add, ← mul_assoc]
  congr 1
  rw [mul_comm]
  congr 1
  · congr 1
    refine Nat.eq_of_testBit_eq fun k => ?_
    rw [Nat.testBit_div_two_pow, Nat.testBit_and, Nat.testBit_and, Nat.testBit_div_two_pow]
    congr 1
    rw [← Nat.testBit_div_two_pow, Nat.mul_add_div (Nat.two_pow_pos a), Nat.div_eq_of_lt hc, Nat.add_zero]
  · refine sign_congr fun k hk => ?_
    rw [Nat.testBit_and, Nat.testBit_and, Nat.testBit_two_pow_mul_add _ hc, if_pos hk]

/-- The same, the sum over the low bits outside. -/
theorem walsh_add_comm (a b : ℕ) (f : ℕ → ℝ) (j : ℕ) :
    walsh (a + b) f j = walsh a (fun c => walsh b (fun r => f (2 ^ a * r + c)) (j / 2 ^ a)) j := by
  rw [walsh_add]
  unfold walsh
  simp only [mul_sum]
  rw [sum_comm]
  refine sum_congr rfl fun c _ => sum_congr rfl fun r _ => ?_
  ring

/-- The sum of four numbers, at each index. -/
theorem walsh_two (f : ℕ → ℝ) : walsh 2 f 0 = f 0 + f 1 + f 2 + f 3 ∧ walsh 2 f 1 = f 0 - f 1 + f 2 - f 3
    ∧ walsh 2 f 2 = f 0 + f 1 - f 2 - f 3 ∧ walsh 2 f 3 = f 0 - f 1 - f 2 + f 3 := by
  have s0 : sign 2 0 = 1 := by simp [sign, prod_range_succ]
  have s1 : sign 2 1 = -1 := by simp [sign, prod_range_succ, Nat.testBit]
  have s2 : sign 2 2 = -1 := by simp [sign, prod_range_succ, Nat.testBit]
  have s3 : sign 2 3 = 1 := by simp [sign, prod_range_succ, Nat.testBit]
  refine ⟨?_, ?_, ?_, ?_⟩ <;>
  · unfold walsh
    simp only [show (2 : ℕ) ^ 2 = 4 from rfl, sum_range_succ, range_zero, sum_empty,
      show (0 : ℕ) &&& 0 = 0 from rfl, show (1 : ℕ) &&& 0 = 0 from rfl, show (2 : ℕ) &&& 0 = 0 from rfl, show (3 : ℕ) &&& 0 = 0 from rfl,
      show (0 : ℕ) &&& 1 = 0 from rfl, show (1 : ℕ) &&& 1 = 1 from rfl, show (2 : ℕ) &&& 1 = 0 from rfl, show (3 : ℕ) &&& 1 = 1 from rfl,
      show (0 : ℕ) &&& 2 = 0 from rfl, show (1 : ℕ) &&& 2 = 0 from rfl, show (2 : ℕ) &&& 2 = 2 from rfl, show (3 : ℕ) &&& 2 = 2 from rfl,
      show (0 : ℕ) &&& 3 = 0 from rfl, show (1 : ℕ) &&& 3 = 1 from rfl, show (2 : ℕ) &&& 3 = 2 from rfl, show (3 : ℕ) &&& 3 = 3 from rfl,
      s0, s1, s2, s3]
    ring

/-- What `n` stages leave at `j`: the sum over the `2^n` indices that share `j`'s high bits. -/
theorem stages_eq (n : ℕ) (f : ℕ → ℝ) (j : ℕ) :
    stages n f j = walsh n (fun i => f (2 ^ n * (j / 2 ^ n) + i)) j := by
  induction n generalizing j with
  | zero => simp [stages, walsh, sign]
  | succ n ih =>
    have hq : ∀ x : ℕ, (x ^^^ 2 ^ n) % 2 ^ n = x % 2 ^ n := fun x => by
      refine Nat.eq_of_testBit_eq fun k => ?_
      rw [Nat.testBit_mod_two_pow, Nat.testBit_mod_two_pow, Nat.testBit_xor, Nat.testBit_two_pow]
      by_cases h : k < n
      · simp [h, (Nat.ne_of_lt h).symm]
      · simp [h]
    have hd : (j ^^^ 2 ^ n) / 2 ^ n = (j / 2 ^ n) ^^^ 1 := by
      refine Nat.eq_of_testBit_eq fun k => ?_
      rw [Nat.testBit_div_two_pow, Nat.testBit_xor, Nat.testBit_xor, Nat.testBit_div_two_pow, Nat.testBit_two_pow]
      congr 1
      rw [show (1 : ℕ) = 2 ^ 0 from rfl, Nat.testBit_two_pow]
      congr 1
      exact propext ⟨fun h => by omega, fun h => by omega⟩
    have hx : walsh n (fun i => f (2 ^ n * ((j / 2 ^ n) ^^^ 1) + i)) (j ^^^ 2 ^ n) = walsh n (fun i => f (2 ^ n * ((j / 2 ^ n) ^^^ 1) + i)) j := by
      rw [← walsh_mod n _ (j ^^^ 2 ^ n), hq, walsh_mod]
    have hb : j.testBit n = decide (j / 2 ^ n % 2 = 1) := by
      rw [Nat.testBit_eq_decide_div_mod_eq]
    have hh : j / 2 ^ (n + 1) = j / 2 ^ n / 2 := by rw [Nat.pow_succ, Nat.div_div_eq_div_mul]
    have hs : walsh (n + 1) (fun i => f (2 ^ (n + 1) * (j / 2 ^ (n + 1)) + i)) j
        = walsh n (fun i => f (2 ^ n * (2 * (j / 2 ^ n / 2)) + i)) j
          + (if j.testBit n then -1 else 1) * walsh n (fun i => f (2 ^ n * (2 * (j / 2 ^ n / 2) + 1) + i)) j := by
      rw [walsh_add, walsh]
      rw [show (2 : ℕ) ^ 1 = 2 from rfl, sum_range_succ, sum_range_one, hh]
      congr 1
      · rw [show (0 &&& (j / 2 ^ n)) = 0 from Nat.zero_and _, show sign 1 0 = 1 by simp [sign], one_mul]
        refine walsh_congr (fun i _ => ?_) j
        congr 1; rw [Nat.pow_succ]; ring
      · congr 1
        · unfold sign
          rw [prod_range_one, Nat.testBit_and, hb, Nat.testBit_zero, Nat.testBit_zero]
          simp
        · refine walsh_congr (fun i _ => ?_) j
          congr 1; rw [Nat.pow_succ]; ring
    rw [hs, stages, stage, ih, ih, hd, hx]
    rcases Nat.mod_two_eq_zero_or_one (j / 2 ^ n) with h | h
    · have e : j / 2 ^ n = 2 * (j / 2 ^ n / 2) := by omega
      have x : (j / 2 ^ n) ^^^ 1 = 2 * (j / 2 ^ n / 2) + 1 := by
        rw [Nat.xor_one_of_even (Nat.even_iff.mpr h)]; omega
      rw [x, hb, h, ← e]
      simp
    · have e : j / 2 ^ n = 2 * (j / 2 ^ n / 2) + 1 := by omega
      have x : (j / 2 ^ n) ^^^ 1 = 2 * (j / 2 ^ n / 2) := by
        rw [Nat.xor_one_of_odd (Nat.odd_iff.mpr h)]; omega
      rw [x, hb, h, ← e]
      simp
      ring

/-- All the stages of `n` bits compute the sum. -/
theorem stages_all (n : ℕ) (f : ℕ → ℝ) {j : ℕ} (hj : j < 2 ^ n) : stages n f j = walsh n f j := by
  rw [stages_eq, Nat.div_eq_of_lt hj]
  simp

end Cert.Walsh

end
-- ==== Proof.Vectors.lean ====
/- Vectors of 2^20 extended reals, their entries as reals, and their Walsh-Hadamard sums. -/
module

public import proofs.«01_k».proof.Proof.Walsh
public import Idealize.ShloMosaic.PureOps.Ideal.Laws
public import Idealize.ShloMosaic.Lib.ValueIdxCore

@[expose] public section

noncomputable section

namespace Cert.Walsh

open Idealize.ShloMosaic Idealize.ShloMosaic.ValueIdx

/-- A vector of 2^20 numbers. -/
abbrev Vector20 : Type := FVec Ideal ⟨1, ![1048576]⟩ .f32

/-- Every entry is a real number. -/
def Finite (x : Vector20) : Prop := ∀ p : Fin 1048576, (x (ix1 p) : EReal) ≠ ⊤ ∧ (x (ix1 p) : EReal) ≠ ⊥

/-- The entries as reals. -/
def reals (x : Vector20) (n : ℕ) : ℝ := if h : n < 1048576 then EReal.toReal (x (ix1 ⟨n, h⟩)) else 0

/-- The entries of a finite vector are its reals. -/
theorem reals_coe {x : Vector20} (h : Finite x) (p : Fin 1048576) : (x (ix1 p) : EReal) = ((reals x p.val : ℝ) : EReal) := by
  unfold reals
  rw [dif_pos p.isLt]
  exact (EReal.coe_toReal (h p).1 (h p).2).symm

/-- The vector of Walsh-Hadamard sums. -/
def sums (x : Vector20) : Vector20 := fun y => ((walsh 20 (reals x) (y 0).val : ℝ) : EReal)

end Cert.Walsh

end
-- ==== Proof.FinitePre.lean ====
/- What the precondition `finite` says: every entry of the two arguments is a real number. -/
module

public import proofs.«01_k».proof.Proof.Frames
public import proofs.«01_k».proof.Proof.Vectors
public import Idealize.ShloMosaic.Lib.ReduceAll

@[expose] public section

noncomputable section

namespace Cert.Proof

open Idealize.ShloMosaic Idealize.ShloMosaic.TcCoe Idealize.ShloMosaic.ValueIdx Cert.Walsh

/-- The word 0x7F800000 is +∞. -/
theorem infinity_f32 : Ideal.ofBits .f32 0x7F800000#32 = ⊤ := by
  show Ideal.ieee 8 23 0x7F800000#32 = _
  unfold Ideal.ieee
  rw [if_pos (by decide), if_pos (by decide), if_neg (by decide)]

/-- An extended real whose absolute value compares below +∞ is a real number. -/
theorem real_of_lt (x : EReal) (h : Ideal.cmp .olt (max x (-x)) ⊤ = 1#1) : x ≠ ⊤ ∧ x ≠ ⊥ := by
  have hlt : max x (-x) < ⊤ := by
    by_contra hn
    have h : BitVec.ofBool (decide (max x (-x) < ⊤)) = 1#1 := h
    rw [decide_eq_false hn] at h
    exact absurd h (by decide)
  constructor
  · rintro rfl; simp at hlt
  · rintro rfl; simp at hlt

/-- One half of the precondition: all comparisons of a vector's entries hold, so the vector is finite. -/
theorem finite_of_all (x : Vector20) (j : Cert.Pre_finite.S_.Idx)
    (h : Host.reduce IntOp.andi (cmpf .olt (Host.absf x)
        (broadcastInDim Cert.Pre_finite.S1048576 ![] Cert.Pre_finite.Facts.bcast_S_S1048576
          (constant (F := Ideal) Cert.Pre_finite.S_ .f32 0x7F800000#32)))
        (constantI Cert.Pre_finite.S_ 1 1#1) Cert.Pre_finite.Facts.reducesTo_S1048576_S_d0 Cert.Pre_finite.Facts.h_S_ j = 1#1) :
    Finite x := by
  haveI : Subsingleton Cert.Pre_finite.S_.Idx := ⟨fun a b => funext fun k => k.elim0⟩
  intro p
  have e := Host.reduce_andi_all _ _ _ _ j h (ix1 p)
  refine real_of_lt (x (ix1 p)) ?_
  rw [← infinity_f32]
  exact e

/-- The precondition holds of two vectors only if both are finite. -/
theorem finite_of_pre (a b : Vector20) (h : Cert.Pre_finite.fn (F := Ideal) a b = fun _ => 1#1) : Finite a ∧ Finite b := by
  let j : Cert.Pre_finite.S_.Idx := fun k => k.elim0
  have e := congrFun h j
  obtain ⟨ea, eb⟩ := IntOp.andi_eq_one.mp e
  exact ⟨finite_of_all a j ea, finite_of_all b j eb⟩

end Cert.Proof

end
-- ==== Proof.SignMatrix.lean ====
/- The entries of the kernel's matrix of signs over the extended reals: entry (r, c) is the sign of `r &&& c` over
   eight bits. -/
module

public import proofs.«01_k».proof.Proof.Blocks
public import proofs.«01_k».proof.Proof.Vectors

@[expose] public section

noncomputable section

namespace Cert.KernelIdeal.Wht

open Idealize.ShloMosaic Idealize.ShloMosaic.ValueIdx Cert.KernelIdeal.Gen Cert.Walsh

/-- Whether the number of ones among the lowest `a` bits of `n` is odd. -/
def odd (a n : ℕ) : Bool := (List.range a).foldl (fun p k => p.xor (n.testBit k)) false

/-- The sign of `n` by that parity. -/
theorem sign_eq_odd (a n : ℕ) : sign a n = if odd a n then -1 else 1 := by
  induction a with
  | zero => simp [sign, odd]
  | succ a ih =>
    unfold sign at ih ⊢
    rw [Finset.prod_range_succ, ih, show odd (a + 1) n = (odd a n).xor (n.testBit a) by
      unfold odd; rw [List.range_succ, List.foldl_append]; rfl]
    cases odd a n <;> cases n.testBit a <;> simp

/-- The word of an entry, from the number `n = r &&& c`. -/
def signWord (n : ℕ) : BitVec 16 :=
  (IntOp.ori 16256#32 (IntOp.shli .vector (IntOp.andi (IntOp.ctpop (BitVec.ofNat 32 n)) 1#32) 15#32)).truncate 16

/-- The word is that of −1 when the parity is odd, and that of 1 otherwise. -/
theorem signWord_eq (n : ℕ) (hn : n < 256) : signWord n = if odd 8 n then 0xBF80#16 else 0x3F80#16 := by
  have : ∀ n < 256, signWord n = if odd 8 n then 0xBF80#16 else 0x3F80#16 := by decide +kernel
  exact this n hn

/-- The word 0x3F80 is the number 1. -/
theorem one_bf16 : Ideal.ofBits .bf16 0x3F80#16 = ((1 : ℝ) : EReal) := by
  show Ideal.ieee 8 7 0x3F80#16 = _
  unfold Ideal.ieee
  rw [if_neg (by decide), if_neg (by decide), show ((0x3F80#16 : BitVec 16).extractLsb' 7 8).toNat = 127 by decide,
    show ((0x3F80#16 : BitVec 16).extractLsb' 0 7).toNat = 0 by decide,
    show (((0x3F80#16 : BitVec 16).extractLsb' (8 + 7) 1) == 1#1) = false by decide]
  norm_num

/-- The word 0xBF80 is the number −1. -/
theorem neg_one_bf16 : Ideal.ofBits .bf16 0xBF80#16 = ((-1 : ℝ) : EReal) := by
  show Ideal.ieee 8 7 0xBF80#16 = _
  unfold Ideal.ieee
  rw [if_neg (by decide), if_neg (by decide), show ((0xBF80#16 : BitVec 16).extractLsb' 7 8).toNat = 127 by decide,
    show ((0xBF80#16 : BitVec 16).extractLsb' 0 7).toNat = 0 by decide,
    show (((0xBF80#16 : BitVec 16).extractLsb' (8 + 7) 1) == 1#1) = true by decide]
  norm_num

/-- Entry (r, c) of the kernel's matrix is the sign of `r &&& c`. -/
theorem signs_apply (r c : Fin 256) :
    ((signs : Vec Ideal S256x256 .bf16) (ix2 r c) : EReal) = ((sign 8 (r.val &&& c.val) : ℝ) : EReal) := by
  have hlt : r.val &&& c.val < 256 := Nat.and_lt_two_pow (n := 8) _ c.isLt
  have hw : ((signs : Vec Ideal S256x256 .bf16) (ix2 r c) : EReal) = Ideal.ofBits .bf16 (signWord (r.val &&& c.val)) := by
    unfold signs k0_pay1
    rw [shapeCast_self]
    show Ideal.ofBits .bf16 ((IntOp.ori 16256#32 (IntOp.shli .vector (IntOp.andi (IntOp.ctpop
      (IntOp.andi (BitVec.ofNat 32 (0 * 256 + r.val)) (BitVec.ofNat 32 (0 * 256 + c.val)))) 1#32) 15#32)).truncate 16) = _
    rw [Nat.zero_mul, Nat.zero_add, Nat.zero_add]
    unfold signWord
    congr 8
    exact (BitVec.ofNat_and ..).symm
  rw [hw, signWord_eq _ hlt, sign_eq_odd]
  cases odd 8 (r.val &&& c.val)
  · exact one_bf16
  · exact neg_one_bf16

end Cert.KernelIdeal.Wht

end
-- ==== Proof.Nested.lean ====
/- The twenty stages split as the kernel splits them: along the rows of a 1024 x 1024 matrix, then along its columns,
   and each of these two over the four groups of 256 first, then inside a group. -/
module

public import proofs.«01_k».proof.Proof.Walsh

@[expose] public section

noncomputable section

namespace Cert.Walsh

/-- Ten stages over 1024 numbers: two over the four groups of 256 numbers, then eight inside a group. -/
def grouped (f : ℕ → ℝ) (j : ℕ) : ℝ := walsh 8 (fun c => walsh 2 (fun q => f (256 * q + c)) (j / 256)) (j % 256)

/-- These are the ten stages. -/
theorem grouped_eq (f : ℕ → ℝ) (j : ℕ) (hj : j < 1024) : grouped f j = walsh 10 f j := by
  have := walsh_add_comm 8 2 f j
  unfold grouped
  rw [show walsh 10 f j = walsh (8 + 2) f j from rfl, this]
  have := walsh_mod 8 (fun c => walsh 2 (fun q => f (256 * q + c)) (j / 256)) j
  exact this

/-- The rows and then the columns of the matrix `f (1024 r + c)`: the twenty stages. -/
theorem rows_cols (f : ℕ → ℝ) (r c : ℕ) (hr : r < 1024) (hc : c < 1024) :
    grouped (fun r' => grouped (fun c' => f (1024 * r' + c')) c) r = walsh 20 f (1024 * r + c) := by
  have h := walsh_add 10 10 f (1024 * r + c)
  rw [grouped_eq _ _ hr, show walsh 20 f (1024 * r + c) = walsh (10 + 10) f (1024 * r + c) from rfl, h]
  rw [show (1024 * r + c) / 2 ^ 10 = r by omega]
  refine walsh_congr (fun r' _ => ?_) r
  rw [grouped_eq _ _ hc]
  have e := walsh_mod 10 (fun c' => f (2 ^ 10 * r' + c')) (1024 * r + c)
  rw [show (1024 * r + c) % 2 ^ 10 = c by omega] at e
  exact e

end Cert.Walsh

end
-- ==== Proof.KernelValue.lean ====
/- What the kernel's blocks hold over the extended reals when the matrices they are computed from hold real numbers:
   the row transform, the sums and differences of row groups, and the column transform. -/
module

public import proofs.«01_k».proof.Proof.SignMatrix
public import proofs.«01_k».proof.Proof.Nested
public import Idealize.ShloMosaic.Lib.MatmulPlain

@[expose] public section

noncomputable section

namespace Cert.KernelIdeal.Wht

open Idealize.ShloMosaic Idealize.ShloMosaic.ValueIdx Cert.KernelIdeal.Gen Cert.Walsh

/-- A sum of reals, read as an extended real. -/
theorem coe_sum (n : ℕ) (f : ℕ → ℝ) : ((∑ i ∈ Finset.range n, f i : ℝ) : EReal) = ∑ i ∈ Finset.range n, ((f i : ℝ) : EReal) := by
  induction n with
  | zero => simp
  | succ n ih => rw [Finset.sum_range_succ, Finset.sum_range_succ, EReal.coe_add, ih]

/-- The product of signs and entries, summed over 256 places, is the Walsh-Hadamard sum. -/
theorem sum_signs (S : ℕ → ℝ) (d : ℕ) :
    ∑ k : Fin 256, ((sign 8 (k.val &&& d) : ℝ) : EReal) * ((S k.val : ℝ) : EReal) = ((walsh 8 S d : ℝ) : EReal) := by
  unfold walsh
  rw [coe_sum, ← Finset.sum_range (n := 256) (fun k => ((sign 8 (k &&& d) : ℝ) : EReal) * ((S k : ℝ) : EReal))]
  exact Finset.sum_congr rfl fun k _ => (EReal.coe_mul _ _).symm

/-- A row of reals times the matrix of signs. -/
theorem row_matmul (s : FVec Ideal S512x256 .bf16) (S : ℕ → ℝ) (r : Fin 512) (d : Fin 256)
    (hs : ∀ c : Fin 256, (s (ix2 r c) : EReal) = ((S c.val : ℝ) : EReal)) :
    (FloatOps.matmul (F := Ideal) (φ₁ := .bf16) (φ₂ := .bf16) dot_S512x256_S256x256_S512x256_1_0_0_1_n_n none s (signs : Vec Ideal S256x256 .bf16)
      (constant S512x256 .f32 0x00000000#32) (ix2 r d) : EReal) = ((walsh 8 S d.val : ℝ) : EReal) := by
  refine (Ideal.matmul_plain_apply (M := 512) (K := 256) (N := 256) none s (signs : Vec Ideal S256x256 .bf16)
    (constant S512x256 .f32 0x00000000#32) r d).trans ?_
  rw [← sum_signs]
  refine (congrArg₂ (· + ·) Ideal.ofBits_zero_f32 (Finset.sum_congr rfl fun k _ => ?_)).trans (zero_add _)
  rw [hs k, signs_apply]
  exact mul_comm _ _

/-- The matrix of signs times a column of reals. -/
theorem col_matmul (s : FVec Ideal S256x1024 .bf16) (S : ℕ → ℝ) (r : Fin 256) (d : Fin 1024)
    (hs : ∀ c : Fin 256, (s (ix2 c d) : EReal) = ((S c.val : ℝ) : EReal)) :
    (FloatOps.matmul (F := Ideal) (φ₁ := .bf16) (φ₂ := .bf16) dot_S256x256_S256x1024_S256x1024_1_0_0_1_n_n none (signs : Vec Ideal S256x256 .bf16) s
      (constant S256x1024 .f32 0x00000000#32) (ix2 r d) : EReal) = ((walsh 8 S r.val : ℝ) : EReal) := by
  refine (Ideal.matmul_plain_apply (M := 256) (K := 256) (N := 1024) none (signs : Vec Ideal S256x256 .bf16) s
    (constant S256x1024 .f32 0x00000000#32) r d).trans ?_
  rw [← sum_signs]
  refine (congrArg₂ (· + ·) Ideal.ofBits_zero_f32 (Finset.sum_congr rfl fun k _ => ?_)).trans (zero_add _)
  rw [hs k, signs_apply, Nat.land_comm]

/-! ## The rows -/

section Rows
variable (x : Vec Ideal S512x1024 .f32) (X : ℕ → ℝ) (r : Fin 512)

/-- Entry (r, c) of column group `q` of a block. -/
theorem slice_apply (q : ℕ) (hq : q < 4) (off : Fin 2 → ℕ) (ho : off = ![0, 256 * q])
    (h : S512x1024.Slices off S512x256) (c : Fin 256) :
    extractStridedSlice S512x256 off (k0_pay20 x) h (ix2 r c)
      = x (ix2 r ⟨256 * q + c.val, by have := c.isLt; omega⟩) := by
  subst ho
  unfold k0_pay20
  rw [shapeCast_self]
  unfold extractStridedSlice
  congr 1
  funext a
  apply Fin.ext
  match a with
  | ⟨0, _⟩ => show 0 + r.val = r.val; omega
  | ⟨1, _⟩ => rfl

variable (hx : ∀ c : Fin 1024, (x (ix2 r c) : EReal) = ((X c.val : ℝ) : EReal))

include hx

/-- Sum of column groups 0 and 1. -/
theorem cols01_add (c : Fin 256) : (k0_pay25 x (ix2 r c) : EReal) = ((X (256 * 0 + c.val) + X (256 * 1 + c.val) : ℝ) : EReal) := by
  rw [EReal.coe_add, ← hx ⟨256 * 0 + c.val, by have := c.isLt; omega⟩, ← hx ⟨256 * 1 + c.val, by have := c.isLt; omega⟩]
  exact congrArg₂ (fun a b : EReal => a + b) (slice_apply x r 0 (by omega) _ rfl slices_S512x1024_o0_0_S512x256 c) (slice_apply x r 1 (by omega) _ rfl slices_S512x1024_o0_256_S512x256 c)

/-- Difference of column groups 0 and 1. -/
theorem cols01_sub (c : Fin 256) : (k0_pay26 x (ix2 r c) : EReal) = ((X (256 * 0 + c.val) - X (256 * 1 + c.val) : ℝ) : EReal) := by
  rw [EReal.coe_sub, ← hx ⟨256 * 0 + c.val, by have := c.isLt; omega⟩, ← hx ⟨256 * 1 + c.val, by have := c.isLt; omega⟩]
  exact congrArg₂ (fun a b : EReal => a - b) (slice_apply x r 0 (by omega) _ rfl slices_S512x1024_o0_0_S512x256 c) (slice_apply x r 1 (by omega) _ rfl slices_S512x1024_o0_256_S512x256 c)

/-- Sum of column groups 2 and 3. -/
theorem cols23_add (c : Fin 256) : (k0_pay27 x (ix2 r c) : EReal) = ((X (256 * 2 + c.val) + X (256 * 3 + c.val) : ℝ) : EReal) := by
  rw [EReal.coe_add, ← hx ⟨256 * 2 + c.val, by have := c.isLt; omega⟩, ← hx ⟨256 * 3 + c.val, by have := c.isLt; omega⟩]
  exact congrArg₂ (fun a b : EReal => a + b) (slice_apply x r 2 (by omega) _ rfl slices_S512x1024_o0_512_S512x256 c) (slice_apply x r 3 (by omega) _ rfl slices_S512x1024_o0_768_S512x256 c)

/-- Difference of column groups 2 and 3. -/
theorem cols23_sub (c : Fin 256) : (k0_pay28 x (ix2 r c) : EReal) = ((X (256 * 2 + c.val) - X (256 * 3 + c.val) : ℝ) : EReal) := by
  rw [EReal.coe_sub, ← hx ⟨256 * 2 + c.val, by have := c.isLt; omega⟩, ← hx ⟨256 * 3 + c.val, by have := c.isLt; omega⟩]
  exact congrArg₂ (fun a b : EReal => a - b) (slice_apply x r 2 (by omega) _ rfl slices_S512x1024_o0_512_S512x256 c) (slice_apply x r 3 (by omega) _ rfl slices_S512x1024_o0_768_S512x256 c)

/-- Column group `b` of a transformed row: the ten stages along the row. -/
theorem rowGroup_apply (b : ℕ) (hb : b < 4) (d : Fin 256) :
    (rowGroup (signs : Vec Ideal S256x256 .bf16) x b (ix2 r d) : EReal) = ((grouped X (256 * b + d.val) : ℝ) : EReal) := by
  have hd := d.isLt
  unfold grouped
  rw [show (256 * b + d.val) / 256 = b by omega, show (256 * b + d.val) % 256 = d.val by omega]
  unfold rowGroup
  match b, hb with
  | 0, _ =>
    show (k0_pay29 (signs : Vec Ideal S256x256 .bf16) x (ix2 r d) : EReal) = _
    unfold k0_pay29; rw [shapeCast_self]
    refine row_matmul _ _ r d fun c => ?_
    rw [(walsh_two _).1, show ∀ a b c d : ℝ, a + b + c + d = (a + b) + (c + d) from fun a b c d => by ring, EReal.coe_add, ← cols01_add x X r hx c, ← cols23_add x X r hx c]
    rfl
  | 1, _ =>
    show (k0_pay30 (signs : Vec Ideal S256x256 .bf16) x (ix2 r d) : EReal) = _
    unfold k0_pay30; rw [shapeCast_self]
    refine row_matmul _ _ r d fun c => ?_
    rw [(walsh_two _).2.1, show ∀ a b c d : ℝ, a - b + c - d = (a - b) + (c - d) from fun a b c d => by ring, EReal.coe_add, ← cols01_sub x X r hx c, ← cols23_sub x X r hx c]
    rfl
  | 2, _ =>
    show (k0_pay31 (signs : Vec Ideal S256x256 .bf16) x (ix2 r d) : EReal) = _
    unfold k0_pay31; rw [shapeCast_self]
    refine row_matmul _ _ r d fun c => ?_
    rw [(walsh_two _).2.2.1, show ∀ a b c d : ℝ, a + b - c - d = (a + b) - (c + d) from fun a b c d => by ring, EReal.coe_sub, ← cols01_add x X r hx c, ← cols23_add x X r hx c]
    rfl
  | 3, _ =>
    show (k0_pay32 (signs : Vec Ideal S256x256 .bf16) x (ix2 r d) : EReal) = _
    unfold k0_pay32; rw [shapeCast_self]
    refine row_matmul _ _ r d fun c => ?_
    rw [(walsh_two _).2.2.2, show ∀ a b c d : ℝ, a - b - c + d = (a - b) - (c - d) from fun a b c d => by ring, EReal.coe_sub, ← cols01_sub x X r hx c, ← cols23_sub x X r hx c]
    rfl

end Rows

/-- Row `r` of the row transform, when the two blocks of 512 rows hold the rows of the matrix `X`: the ten stages along
    row `r` of `X`. -/
theorem rowTransform_apply (x0 x1 : Vec Ideal S512x1024 .f32) (X : ℕ → ℕ → ℝ)
    (h0 : ∀ (r : Fin 512) (c : Fin 1024), (x0 (ix2 r c) : EReal) = ((X r.val c.val : ℝ) : EReal))
    (h1 : ∀ (r : Fin 512) (c : Fin 1024), (x1 (ix2 r c) : EReal) = ((X (512 + r.val) c.val : ℝ) : EReal)) (r c : Fin 1024) :
    (rowTransform (signs : Vec Ideal S256x256 .bf16) x0 x1 (ix2 r c) : EReal) = ((grouped (X r.val) c.val : ℝ) : EReal) := by
  have hr := r.isLt
  have hc := c.isLt
  have key : ∀ (x : Vec Ideal S512x1024 .f32) (hx : ∀ c' : Fin 1024, (x (ix2 ⟨r.val % 512, Nat.mod_lt _ (by norm_num)⟩ c') : EReal) = ((X r.val c'.val : ℝ) : EReal)),
      (rowGroup (signs : Vec Ideal S256x256 .bf16) x (c.val / 256)
        (ix2 ⟨r.val % 512, Nat.mod_lt _ (by norm_num)⟩ ⟨c.val % 256, Nat.mod_lt _ (by norm_num)⟩) : EReal) = ((grouped (X r.val) c.val : ℝ) : EReal) := by
    intro x hx
    refine (rowGroup_apply x (X r.val) ⟨r.val % 512, Nat.mod_lt _ (by norm_num)⟩ hx (c.val / 256) (by omega) ⟨c.val % 256, Nat.mod_lt _ (by norm_num)⟩).trans ?_
    show ((grouped (X r.val) (256 * (c.val / 256) + c.val % 256) : ℝ) : EReal) = _
    rw [Nat.div_add_mod]
  show (rowGroup (signs : Vec Ideal S256x256 .bf16) (if r.val < 512 then x0 else x1) (c.val / 256)
        (ix2 ⟨r.val % 512, Nat.mod_lt _ (by norm_num)⟩ ⟨c.val % 256, Nat.mod_lt _ (by norm_num)⟩) : EReal) = _
  by_cases hlt : r.val < 512
  · rw [if_pos hlt]
    refine key x0 fun c' => (h0 _ c').trans ?_
    show ((X (r.val % 512) c'.val : ℝ) : EReal) = _
    rw [Nat.mod_eq_of_lt hlt]
  · rw [if_neg hlt]
    refine key x1 fun c' => (h1 _ c').trans ?_
    show ((X (512 + r.val % 512) c'.val : ℝ) : EReal) = _
    rw [show 512 + r.val % 512 = r.val by omega]

/-! ## The columns -/

section Columns
variable (u : Vec Ideal S1024x1024 .bf16) (U : ℕ → ℝ) (d : Fin 1024)
  (hu : ∀ r : Fin 1024, (u (ix2 r d) : EReal) = ((U r.val : ℝ) : EReal))

/-- The two-stage combination of rows that the combined group `p` holds. -/
def pairOf (U : ℕ → ℝ) (p r : ℕ) : ℝ :=
  match p with
  | 0 => U (256 * 0 + r) + U (256 * 1 + r)
  | 1 => U (256 * 0 + r) - U (256 * 1 + r)
  | 2 => U (256 * 2 + r) + U (256 * 3 + r)
  | _ => U (256 * 2 + r) - U (256 * 3 + r)

include hu

/-- An entry of a row group. -/
theorem rowsOf_apply (k : ℕ) (hk : k < 4) (r : Fin 256) : (rowsOf k hk u (ix2 r d) : EReal) = ((U (256 * k + r.val) : ℝ) : EReal) :=
  hu ⟨256 * k + r.val, by have := r.isLt; omega⟩

/-- An entry of a combined row group. -/
theorem pairGroup_apply (p : ℕ) (hp : p < 4) (r : Fin 256) : (pairGroup u p (ix2 r d) : EReal) = ((pairOf U p r.val : ℝ) : EReal) := by
  unfold pairGroup pairOf
  match p, hp with
  | 0, _ =>
    show (k0_pay33 (rowsOf 0 (by norm_num) u) (rowsOf 1 (by norm_num) u) (ix2 r d) : EReal) = ((U (256 * 0 + r.val) + U (256 * 1 + r.val) : ℝ) : EReal)
    unfold k0_pay33; rw [shapeCast_self, EReal.coe_add, ← rowsOf_apply u U d hu 0 (by norm_num) r, ← rowsOf_apply u U d hu 1 (by norm_num) r]
    rfl
  | 1, _ =>
    show (k0_pay34 (rowsOf 0 (by norm_num) u) (rowsOf 1 (by norm_num) u) (ix2 r d) : EReal) = ((U (256 * 0 + r.val) - U (256 * 1 + r.val) : ℝ) : EReal)
    unfold k0_pay34; rw [shapeCast_self, EReal.coe_sub, ← rowsOf_apply u U d hu 0 (by norm_num) r, ← rowsOf_apply u U d hu 1 (by norm_num) r]
    rfl
  | 2, _ =>
    show (k0_pay35 (rowsOf 2 (by norm_num) u) (rowsOf 3 (by norm_num) u) (ix2 r d) : EReal) = ((U (256 * 2 + r.val) + U (256 * 3 + r.val) : ℝ) : EReal)
    unfold k0_pay35; rw [shapeCast_self, EReal.coe_add, ← rowsOf_apply u U d hu 2 (by norm_num) r, ← rowsOf_apply u U d hu 3 (by norm_num) r]
    rfl
  | 3, _ =>
    show (k0_pay36 (rowsOf 2 (by norm_num) u) (rowsOf 3 (by norm_num) u) (ix2 r d) : EReal) = ((U (256 * 2 + r.val) - U (256 * 3 + r.val) : ℝ) : EReal)
    unfold k0_pay36; rw [shapeCast_self, EReal.coe_sub, ← rowsOf_apply u U d hu 2 (by norm_num) r, ← rowsOf_apply u U d hu 3 (by norm_num) r]
    rfl

/-- An entry of group `k` of the stacked combined groups. -/
theorem pairs_apply (k : ℕ) (hk : k < 4) (r : Fin 256) : (rowsOf k hk (pairs u) (ix2 r d) : EReal) = ((pairOf U k r.val : ℝ) : EReal) := by
  have hr := r.isLt
  refine Eq.trans ?_ (pairGroup_apply u U d hu k hk r)
  show (pairGroup u ((256 * k + r.val) / 256) (ix2 ⟨(256 * k + r.val) % 256, Nat.mod_lt _ (by norm_num)⟩ d) : EReal) = _
  rw [show (256 * k + r.val) / 256 = k by omega]
  congr 2
  apply Fin.ext
  show (256 * k + r.val) % 256 = r.val
  omega

/-- Half `g` of a block of results, with the sign `s`. -/
theorem colGroup_apply (s : ℝ) (g : ℕ) (hg : g < 2) (r : Fin 256) :
    (colGroup (signs : Vec Ideal S256x256 .bf16) ((s : ℝ) : EReal) (pairs u) g (ix2 r d) : EReal)
      = ((walsh 8 (fun r' => pairOf U g r' + s * pairOf U (g + 2) r') r.val : ℝ) : EReal) := by
  unfold colGroup
  match g, hg with
  | 0, _ =>
    show (k0_pay42 (signs : Vec Ideal S256x256 .bf16) ((s : ℝ) : EReal) (rowsOf 0 (by norm_num) (pairs u)) (rowsOf 2 (by norm_num) (pairs u)) (ix2 r d) : EReal) = _
    unfold k0_pay42
    refine col_matmul _ _ r d fun c => ?_
    rw [EReal.coe_add, EReal.coe_mul, ← pairs_apply u U d hu 0 (by norm_num) c, ← pairs_apply u U d hu (0 + 2) (by norm_num) c]
    rfl
  | 1, _ =>
    show (k0_pay42 (signs : Vec Ideal S256x256 .bf16) ((s : ℝ) : EReal) (rowsOf 1 (by norm_num) (pairs u)) (rowsOf 3 (by norm_num) (pairs u)) (ix2 r d) : EReal) = _
    unfold k0_pay42
    refine col_matmul _ _ r d fun c => ?_
    rw [EReal.coe_add, EReal.coe_mul, ← pairs_apply u U d hu 1 (by norm_num) c, ← pairs_apply u U d hu (1 + 2) (by norm_num) c]
    rfl

/-- The first block of results (sign 1): rows 0 to 511 of the ten stages along the columns. -/
theorem colBlock_first (R : Fin 512) :
    (colBlock (signs : Vec Ideal S256x256 .bf16) (((1 : ℝ)) : EReal) (pairs u) (ix2 R d) : EReal) = ((grouped U R.val : ℝ) : EReal) := by
  have hR := R.isLt
  refine (colGroup_apply u U d hu 1 (R.val / 256) (by omega) ⟨R.val % 256, Nat.mod_lt _ (by norm_num)⟩).trans ?_
  unfold grouped
  have : R.val / 256 = 0 ∨ R.val / 256 = 1 := by omega
  rcases this with e | e
  · rw [e]
    refine congrArg _ (walsh_congr (fun r' _ => ?_) _)
    rw [(walsh_two _).1]
    show (U (256 * 0 + r') + U (256 * 1 + r')) + 1 * (U (256 * 2 + r') + U (256 * 3 + r')) = _
    ring
  · rw [e]
    refine congrArg _ (walsh_congr (fun r' _ => ?_) _)
    rw [(walsh_two _).2.1]
    show (U (256 * 0 + r') - U (256 * 1 + r')) + 1 * (U (256 * 2 + r') - U (256 * 3 + r')) = _
    ring

/-- The second block of results (sign −1): rows 512 to 1023. -/
theorem colBlock_second (R : Fin 512) :
    (colBlock (signs : Vec Ideal S256x256 .bf16) (((-1 : ℝ)) : EReal) (pairs u) (ix2 R d) : EReal) = ((grouped U (512 + R.val) : ℝ) : EReal) := by
  have hR := R.isLt
  refine (colGroup_apply u U d hu (-1) (R.val / 256) (by omega) ⟨R.val % 256, Nat.mod_lt _ (by norm_num)⟩).trans ?_
  unfold grouped
  have : R.val / 256 = 0 ∨ R.val / 256 = 1 := by omega
  rw [show (512 + R.val) % 256 = R.val % 256 by omega]
  rcases this with e | e
  · rw [e, show (512 + R.val) / 256 = 2 by omega]
    refine congrArg _ (walsh_congr (fun r' _ => ?_) _)
    rw [(walsh_two _).2.2.1]
    show (U (256 * 0 + r') + U (256 * 1 + r')) + (-1) * (U (256 * 2 + r') + U (256 * 3 + r')) = _
    ring
  · rw [e, show (512 + R.val) / 256 = 3 by omega]
    refine congrArg _ (walsh_congr (fun r' _ => ?_) _)
    rw [(walsh_two _).2.2.2]
    show (U (256 * 0 + r') - U (256 * 1 + r')) + (-1) * (U (256 * 2 + r') - U (256 * 3 + r')) = _
    ring

end Columns

/-! ## The sign of a block of results -/

/-- The word 0x3F800000 is the number 1. -/
theorem one_f32 : Ideal.ofBits .f32 0x3F800000#32 = ((1 : ℝ) : EReal) := by
  show Ideal.ieee 8 23 0x3F800000#32 = _
  unfold Ideal.ieee
  rw [if_neg (by decide), if_neg (by decide), show ((0x3F800000#32 : BitVec 32).extractLsb' 23 8).toNat = 127 by decide,
    show ((0x3F800000#32 : BitVec 32).extractLsb' 0 23).toNat = 0 by decide,
    show (((0x3F800000#32 : BitVec 32).extractLsb' (8 + 23) 1) == 1#1) = false by decide]
  norm_num

/-- The word 0xBF800000 is the number −1. -/
theorem neg_one_f32 : Ideal.ofBits .f32 0xBF800000#32 = ((-1 : ℝ) : EReal) := by
  show Ideal.ieee 8 23 0xBF800000#32 = _
  unfold Ideal.ieee
  rw [if_neg (by decide), if_neg (by decide), show ((0xBF800000#32 : BitVec 32).extractLsb' 23 8).toNat = 127 by decide,
    show ((0xBF800000#32 : BitVec 32).extractLsb' 0 23).toNat = 0 by decide,
    show (((0xBF800000#32 : BitVec 32).extractLsb' (8 + 23) 1) == 1#1) = true by decide]
  norm_num

/-- At grid point 1 the sign is 1. -/
theorem sign_point1 : (k0_pay39 (F := Ideal) 1#32 : EReal) = ((1 : ℝ) : EReal) := one_f32

/-- At grid point 2 it is −1. -/
theorem sign_point2 : (k0_pay39 (F := Ideal) 2#32 : EReal) = ((-1 : ℝ) : EReal) := neg_one_f32

end Cert.KernelIdeal.Wht

end
-- ==== Proof.KernelArrays.lean ====
/- The kernel's arrays: the blocks of 512 rows that the grid points are handed are rows of the arguments read as
   1024 x 1024 matrices, and the result arrays end holding the two blocks that points 1 and 2 write, stacked. -/
module

public import proofs.«01_k».proof.Proof.Region
public import Idealize.ShloMosaic.Lib.StableHlo.RunRead

@[expose] public section

set_option maxRecDepth 16384

noncomputable section

namespace Cert.KernelIdeal.Wht

open Idealize.ShloMosaic Idealize.ShloMosaic.TcCoe Idealize.ShloMosaic.Tactic Idealize.ShloMosaic.ValueIdx
open Idealize.ShloMosaic.Pipeline (Dat Cfg Window)
open Cert.KernelIdeal.Gen

variable {F : FTy → Type} [FloatOps F]
variable (m : (ℓ : Loc nD τ sig) → Buf (Elt F) ℓ) (ρ : Dev nD → PrngReg) (c : Dev nD)

/-- The first argument. -/
def arg0 : FVec F S1048576 .f32 := m ((c.tc : Thread nD τ).loc main_arg0)
/-- The second argument. -/
def arg1 : FVec F S1048576 .f32 := m ((c.tc : Thread nD τ).loc main_arg1)

/-- The kernel's first operand is the first argument as a 1024 x 1024 matrix. -/
theorem operand0 : V m c main_v0 = shapeCast S1024x1024 (arg0 m c) shapeCasts_S1048576_S1024x1024 := by
  dsimp only [V, V0, hostOps0, List.flatten_cons, List.flatten_nil, List.append_nil]
  after_reads_simp; rfl

/-- The second operand is the second argument so read. -/
theorem operand1 : V m c main_v1 = shapeCast S1024x1024 (arg1 m c) shapeCasts_S1048576_S1024x1024 := by
  dsimp only [V, V0, hostOps0, List.flatten_cons, List.flatten_nil, List.append_nil]
  after_reads_simp; rfl

/-- An entry of a vector of 2^20 numbers read as a 1024 x 1024 matrix. -/
theorem matrix_apply (x : FVec F S1048576 .f32) (r d : Fin 1024) :
    shapeCast S1024x1024 x shapeCasts_S1048576_S1024x1024 (ix2 r d)
      = x (ix1 ⟨1024 * r.val + d.val, by have := r.isLt; have := d.isLt; omega⟩) := by
  refine shapeCast_apply _ _ _ _ ?_
  rw [Shape.rowMajor_val_one, Shape.rowMajor_val_two]
  show 1024 * r.val + d.val = r.val * 1024 + d.val
  omega

/-- An entry of a 1024 x 1024 matrix read as a vector. -/
theorem vector_apply (x : FVec F S1024x1024 .f32) (p : Fin 1048576) :
    shapeCast S1048576 x shapeCasts_S1024x1024_S1048576 (ix1 p)
      = x (ix2 ⟨p.val / 1024, by have := p.isLt; omega⟩ ⟨p.val % 1024, Nat.mod_lt _ (by norm_num)⟩) := by
  refine shapeCast_apply _ _ _ _ ?_
  rw [Shape.rowMajor_val_one, Shape.rowMajor_val_two]
  show p.val / 1024 * 1024 + p.val % 1024 = p.val
  omega

/-! ## The inputs' blocks -/

/-- The inputs' blocks begin at row 0 at point 0, at row 512 later, and at column 0. -/
theorem index_in : ∀ t : Fin grid0.N, win0_0.index t 0 * win0_0.size 0 = 512 * min t.val 1 ∧ win0_0.index t 1 * win0_0.size 1 = 0
    ∧ win0_1.index t 0 * win0_1.size 0 = 512 * min t.val 1 ∧ win0_1.index t 1 * win0_1.size 1 = 0 := by decide +kernel

/-- The block of the real part at point `t`: 512 rows from row 0 at point 0, from row 512 later. -/
theorem realBlock_apply (t : Fin cfg0.N) (r : Fin 512) (d : Fin 1024) :
    realBlock m c t (ix2 r d)
      = arg0 m c (ix1 ⟨1024 * (512 * min t.val 1 + r.val) + d.val, by have := r.isLt; have := d.isLt; omega⟩) := by
  refine Eq.trans (b := V m c main_v0 (ix2 ⟨512 * min t.val 1 + r.val, by have := r.isLt; omega⟩ d)) ?_ ?_
  · show V m c main_v0 ((win0_0.rect t).emb (ix2 r d)) = _
    congr 1
    funext a
    apply Fin.ext
    match a with
    | ⟨0, _⟩ => show win0_0.index t 0 * win0_0.size 0 + 1 * r.val = 512 * min t.val 1 + r.val
                rw [(index_in t).1, Nat.one_mul]
    | ⟨1, _⟩ => show win0_0.index t 1 * win0_0.size 1 + 1 * d.val = d.val
                rw [(index_in t).2.1]; omega
  · rw [operand0]; exact matrix_apply _ _ _

/-- The block of the imaginary part at point `t`. -/
theorem imagBlock_apply (t : Fin cfg0.N) (r : Fin 512) (d : Fin 1024) :
    imagBlock m c t (ix2 r d)
      = arg1 m c (ix1 ⟨1024 * (512 * min t.val 1 + r.val) + d.val, by have := r.isLt; have := d.isLt; omega⟩) := by
  refine Eq.trans (b := V m c main_v1 (ix2 ⟨512 * min t.val 1 + r.val, by have := r.isLt; omega⟩ d)) ?_ ?_
  · show V m c main_v1 ((win0_1.rect t).emb (ix2 r d)) = _
    congr 1
    funext a
    apply Fin.ext
    match a with
    | ⟨0, _⟩ => show win0_1.index t 0 * win0_1.size 0 + 1 * r.val = 512 * min t.val 1 + r.val
                rw [(index_in t).2.2.1, Nat.one_mul]
    | ⟨1, _⟩ => show win0_1.index t 1 * win0_1.size 1 + 1 * d.val = d.val
                rw [(index_in t).2.2.2]; omega
  · rw [operand1]; exact matrix_apply _ _ _

/-! ## The results' arrays -/

/-- Two blocks of 512 rows, stacked. -/
def stacked (a b : Vec F S512x1024 .f32) : FVec F S1024x1024 .f32 := fun y =>
  if (y 0).val < 512 then a (ix2 ⟨(y 0).val % 512, Nat.mod_lt _ (by norm_num)⟩ (y 1))
    else b (ix2 ⟨(y 0).val % 512, Nat.mod_lt _ (by norm_num)⟩ (y 1))

/-- The results' blocks begin at row 0 at points 0 and 1, at row 512 at point 2, and at column 0. -/
theorem index_out : ∀ t : Fin grid0.N, win0_2.index t 0 * win0_2.size 0 = 512 * (t.val - 1) ∧ win0_2.index t 1 * win0_2.size 1 = 0
    ∧ win0_3.index t 0 * win0_3.size 0 = 512 * (t.val - 1) ∧ win0_3.index t 1 * win0_3.size 1 = 0 := by decide +kernel

/-- The results' blocks are 512 x 1024 at every point. -/
theorem size_out : ∀ t : Fin grid0.N, win0_2.xsize (grid0.coords t) 0 = 512 ∧ win0_2.xsize (grid0.coords t) 1 = 1024
    ∧ win0_3.xsize (grid0.coords t) 0 = 512 ∧ win0_3.xsize (grid0.coords t) 1 = 1024 := by decide +kernel

/-- The results are written back at points 1 and 2. -/
theorem written_at : ∀ t : Fin cfg0.N, ((cfg0.win 2).flush t = true ↔ 1 ≤ t.val) ∧ ((cfg0.win 3).flush t = true ↔ 1 ≤ t.val) := by
  decide +kernel

/-- From point 1 on, the block a point writes is its 512 rows of the stacked blocks. -/
theorem stacked_apply (out : Fin cfg0.N → Vec F S512x1024 .f32) (t : Fin cfg0.N) (ht : 1 ≤ t.val) (r : Fin 512) (d : Fin 1024) (y : S1024x1024.Idx)
    (hy0 : (y 0).val = 512 * (t.val - 1) + r.val) (hy1 : (y 1).val = d.val) :
    stacked (out t0_1) (out t0_2) y = out t (ix2 r d) := by
  have hr := r.isLt
  have e1 : y 1 = d := Fin.ext hy1
  have e0 : (⟨(y 0).val % 512, Nat.mod_lt _ (by norm_num)⟩ : Fin 512) = r := Fin.ext (by show (y 0).val % 512 = r.val; omega)
  unfold stacked
  rw [e0, e1]
  have hN : t.val < 3 := t.isLt
  have : t.val = 1 ∨ t.val = 2 := by omega
  rcases this with h | h
  · rw [if_pos (by omega), show t = t0_1 from Fin.ext h]
  · rw [if_neg (by omega), show t = t0_2 from Fin.ext h]

/-- The real part of the result, as a matrix. -/
def realResult : FVec F S1024x1024 .f32 := stacked (realOut m c t0_1) (realOut m c t0_2)
/-- The imaginary part of the result, as a matrix. -/
def imagResult : FVec F S1024x1024 .f32 := stacked (imagOut m c t0_1) (imagOut m c t0_2)

/-- What a point writes back of the real part is its rows of the whole result. -/
theorem flushed2 (t : Fin cfg0.N) (ht : (cfg0.win 2).flush t = true) :
    (dats m 0 c).flushed 2 t = ((cfg0.win 2).blk t).view.read (Elt F) (realResult m c) := by
  have h1 := (written_at t).1.mp ht
  show (cfg0.win 2).cut (grid0.coords t) ((dats m 0 c).after 2 t) = _
  rw [after2]
  funext y
  symm
  show realResult m c ((win0_2.rect t).emb y) = realOut m c t _
  refine stacked_apply (realOut m c) t h1 _ _ _ ?_ ?_
  · show win0_2.index t 0 * win0_2.size 0 + 1 * (y 0).val = 512 * (t.val - 1) + (y 0).val
    rw [(index_out t).1, Nat.one_mul]
  · show win0_2.index t 1 * win0_2.size 1 + 1 * (y 1).val = (y 1).val
    rw [(index_out t).2.1]; omega

/-- The same of the imaginary part. -/
theorem flushed3 (t : Fin cfg0.N) (ht : (cfg0.win 3).flush t = true) :
    (dats m 0 c).flushed 3 t = ((cfg0.win 3).blk t).view.read (Elt F) (imagResult m c) := by
  have h1 := (written_at t).2.mp ht
  show (cfg0.win 3).cut (grid0.coords t) ((dats m 0 c).after 3 t) = _
  rw [after3]
  funext y
  symm
  show imagResult m c ((win0_3.rect t).emb y) = imagOut m c t _
  refine stacked_apply (imagOut m c) t h1 _ _ _ ?_ ?_
  · show win0_3.index t 0 * win0_3.size 0 + 1 * (y 0).val = 512 * (t.val - 1) + (y 0).val
    rw [(index_out t).2.2.1, Nat.one_mul]
  · show win0_3.index t 1 * win0_3.size 1 + 1 * (y 1).val = (y 1).val
    rw [(index_out t).2.2.2]; omega

/-- Every row of the real part is written at point 1 or 2. -/
theorem cover2 (i : S1024x1024.Idx) : ∃ t : Fin cfg0.N, (cfg0.win 2).flush t = true ∧ i ∈ ((cfg0.win 2).blk t).view.set := by
  have h0 : (i 0).val < 1024 := (i 0).isLt
  have h1 : (i 1).val < 1024 := (i 1).isLt
  have key : ∀ t : Fin cfg0.N, 1 ≤ t.val → (i 0).val / 512 = t.val - 1 → (cfg0.win 2).flush t = true ∧ i ∈ ((cfg0.win 2).blk t).view.set := by
    intro t ht hi
    refine ⟨(written_at t).1.mpr ht, ?_⟩
    show i ∈ ((View.whole main_v2_0).slice (win0_2.rect t)).set
    rw [View.set_slice_whole, Rect.mem_set_unit]
    intro a
    match a with
    | ⟨0, _⟩ => show win0_2.index t 0 * win0_2.size 0 ≤ (i 0).val ∧ (i 0).val < win0_2.index t 0 * win0_2.size 0 + win0_2.xsize (grid0.coords t) 0
                rw [(index_out t).1, (size_out t).1]; omega
    | ⟨1, _⟩ => show win0_2.index t 1 * win0_2.size 1 ≤ (i 1).val ∧ (i 1).val < win0_2.index t 1 * win0_2.size 1 + win0_2.xsize (grid0.coords t) 1
                rw [(index_out t).2.1, (size_out t).2.1]; omega
  by_cases h : (i 0).val < 512
  · exact ⟨t0_1, key t0_1 (by decide) (by show (i 0).val / 512 = 0; omega)⟩
  · exact ⟨t0_2, key t0_2 (by decide) (by show (i 0).val / 512 = 1; omega)⟩

/-- The same of the imaginary part. -/
theorem cover3 (i : S1024x1024.Idx) : ∃ t : Fin cfg0.N, (cfg0.win 3).flush t = true ∧ i ∈ ((cfg0.win 3).blk t).view.set := by
  have h0 : (i 0).val < 1024 := (i 0).isLt
  have h1 : (i 1).val < 1024 := (i 1).isLt
  have key : ∀ t : Fin cfg0.N, 1 ≤ t.val → (i 0).val / 512 = t.val - 1 → (cfg0.win 3).flush t = true ∧ i ∈ ((cfg0.win 3).blk t).view.set := by
    intro t ht hi
    refine ⟨(written_at t).2.mpr ht, ?_⟩
    show i ∈ ((View.whole main_v2_1).slice (win0_3.rect t)).set
    rw [View.set_slice_whole, Rect.mem_set_unit]
    intro a
    match a with
    | ⟨0, _⟩ => show win0_3.index t 0 * win0_3.size 0 ≤ (i 0).val ∧ (i 0).val < win0_3.index t 0 * win0_3.size 0 + win0_3.xsize (grid0.coords t) 0
                rw [(index_out t).2.2.1, (size_out t).2.2.1]; omega
    | ⟨1, _⟩ => show win0_3.index t 1 * win0_3.size 1 ≤ (i 1).val ∧ (i 1).val < win0_3.index t 1 * win0_3.size 1 + win0_3.xsize (grid0.coords t) 1
                rw [(index_out t).2.2.2, (size_out t).2.2.2]; omega
  by_cases h : (i 0).val < 512
  · exact ⟨t0_1, key t0_1 (by decide) (by show (i 0).val / 512 = 0; omega)⟩
  · exact ⟨t0_2, key t0_2 (by decide) (by show (i 0).val / 512 = 1; omega)⟩

/-- The real part's array ends holding the stacked blocks. -/
theorem final2 : (dats m 0 c).arrAt 2 cfg0.N = realResult m c :=
  (dats m 0 c).arrAt_eq_of_cover 2 (realResult m c) (flushed2 m c) cover2
/-- So does the imaginary part's. -/
theorem final3 : (dats m 0 c).arrAt 3 cfg0.N = imagResult m c :=
  (dats m 0 c).arrAt_eq_of_cover 3 (imagResult m c) (flushed3 m c) cover3

/-- The four windows are of four different arrays. -/
theorem arrays_distinct : Function.Injective (Pipeline.arrRef spec0) := by decide

/-- The first result is the real part's matrix read as a vector. -/
theorem tail3 : Pipeline.afterTail₀ cfgs (dats m) 0 (V0 m) [hostOps1] c main_v3
    = shapeCast S1048576 (realResult m c) shapeCasts_S1024x1024_S1048576 := by
  unfold Pipeline.afterTail₀
  rw [← final2]
  have e := Pipeline.withArrays_arr spec0 arrays_distinct c (V0 m c) (fun w => (dats m 0 c).arrAt w cfg0.N) 2
  rw [← e]
  dsimp only [hostOps1, List.flatten_cons, List.flatten_nil, List.append_nil]
  after_reads_simp; rfl

/-- The second result is the imaginary part's. -/
theorem tail4 : Pipeline.afterTail₀ cfgs (dats m) 0 (V0 m) [hostOps1] c main_v4
    = shapeCast S1048576 (imagResult m c) shapeCasts_S1024x1024_S1048576 := by
  unfold Pipeline.afterTail₀
  rw [← final3]
  have e := Pipeline.withArrays_arr spec0 arrays_distinct c (V0 m c) (fun w => (dats m 0 c).arrAt w cfg0.N) 3
  rw [← e]
  dsimp only [hostOps1, List.flatten_cons, List.flatten_nil, List.append_nil]
  after_reads_simp; rfl

/-- Every run ends with the two results as stated and the arguments as they were. -/
theorem run_results : θ_run defs (onTc (τ := τ) (main (F := F))) (s₀ m ρ) fun r => ∀ c : Dev nD,
      r.2.mem ((c.tc : Thread nD τ).loc main_v3) = shapeCast S1048576 (realResult m c) shapeCasts_S1024x1024_S1048576
      ∧ r.2.mem ((c.tc : Thread nD τ).loc main_v4) = shapeCast S1048576 (imagResult m c) shapeCasts_S1024x1024_S1048576
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h.1 c).2 main_v3 (Pipeline.mem_restRefs_of main_v3 (by decide) (by decide))).trans (tail3 m c),
     ((h.1 c).2 main_v4 (Pipeline.mem_restRefs_of main_v4 (by decide) (by decide))).trans (tail4 m c),
     ((h.1 c).2 main_arg0 (Pipeline.mem_restRefs_of main_arg0 (by decide) (by decide))).trans (W_main_arg0 m (dats m) c),
     ((h.1 c).2 main_arg1 (Pipeline.mem_restRefs_of main_arg1 (by decide) (by decide))).trans (W_main_arg1 m (dats m) c)⟩)
    (run_quiescent m ρ)

end Cert.KernelIdeal.Wht

end
-- ==== Proof.KernelSums.lean ====
/- THE KERNEL'S RESULTS over the extended reals: from finite arguments, the Walsh-Hadamard sums of each. -/
module

public import proofs.«01_k».proof.Proof.KernelValue
public import proofs.«01_k».proof.Proof.KernelArrays

@[expose] public section

noncomputable section

namespace Cert.KernelIdeal.Wht

open Idealize.ShloMosaic Idealize.ShloMosaic.TcCoe Idealize.ShloMosaic.ValueIdx Idealize.SL.Sem
open Cert.KernelIdeal.Gen Cert.Walsh

/-- Blocks of 512 rows computed from the row transform of a finite vector, stacked and read as a vector, are the
    vector's Walsh-Hadamard sums. -/
theorem stacked_sums (x : FVec Ideal S1048576 .f32) (hx : Finite x) (x0 x1 : Vec Ideal S512x1024 .f32)
    (h0 : ∀ (r : Fin 512) (d : Fin 1024), x0 (ix2 r d) = x (ix1 ⟨1024 * r.val + d.val, by have := r.isLt; have := d.isLt; omega⟩))
    (h1 : ∀ (r : Fin 512) (d : Fin 1024), x1 (ix2 r d) = x (ix1 ⟨1024 * (512 + r.val) + d.val, by have := r.isLt; have := d.isLt; omega⟩)) :
    shapeCast S1048576 (stacked (F := Ideal)
      (colBlock signs (k0_pay39 1#32) (pairs (rowTransform signs x0 x1)))
      (colBlock signs (k0_pay39 2#32) (pairs (rowTransform signs x0 x1)))) shapeCasts_S1024x1024_S1048576 = sums x := by
  suffices H : ∀ p : Fin 1048576, shapeCast S1048576 (stacked (F := Ideal)
      (colBlock signs (k0_pay39 1#32) (pairs (rowTransform signs x0 x1)))
      (colBlock signs (k0_pay39 2#32) (pairs (rowTransform signs x0 x1)))) shapeCasts_S1024x1024_S1048576 (ix1 p) = sums x (ix1 p) from
    funext fun y => by rw [eq_ix1 y]; exact H (y 0)
  intro p
  have hp : p.val < 1048576 := p.isLt
  rw [vector_apply]
  have rows : ∀ r d : Fin 1024, (rowTransform (signs : Vec Ideal S256x256 .bf16) x0 x1 (ix2 r d) : EReal)
      = ((grouped (fun c' => reals x (1024 * r.val + c')) d.val : ℝ) : EReal) := fun r d =>
    rowTransform_apply x0 x1 (fun r' c' => reals x (1024 * r' + c'))
      (fun r' c' => (h0 r' c').trans (reals_coe hx _)) (fun r' c' => (h1 r' c').trans (reals_coe hx _)) r d
  have cols := fun (d : Fin 1024) (R : Fin 512) =>
    (⟨colBlock_first (rowTransform signs x0 x1) (fun r' => grouped (fun c' => reals x (1024 * r' + c')) d.val) d (fun r' => rows r' d) R,
      colBlock_second (rowTransform signs x0 x1) (fun r' => grouped (fun c' => reals x (1024 * r' + c')) d.val) d (fun r' => rows r' d) R⟩ : _ ∧ _)
  have value : ((grouped (fun r' => grouped (fun c' => reals x (1024 * r' + c')) (p.val % 1024)) (p.val / 1024) : ℝ) : EReal)
      = ((walsh 20 (reals x) p.val : ℝ) : EReal) := by
    rw [rows_cols _ _ _ (by omega) (by omega), Nat.div_add_mod]
  show _ = ((walsh 20 (reals x) p.val : ℝ) : EReal)
  rw [← value]
  unfold stacked
  by_cases h : p.val / 1024 < 512
  · refine (if_pos h).trans ?_
    rw [sign_point1]
    refine ((cols ⟨p.val % 1024, Nat.mod_lt _ (by norm_num)⟩ ⟨p.val / 1024 % 512, Nat.mod_lt _ (by norm_num)⟩).1).trans ?_
    show ((grouped _ (p.val / 1024 % 512) : ℝ) : EReal) = _
    rw [Nat.mod_eq_of_lt h]
  · refine (if_neg h).trans ?_
    rw [sign_point2]
    refine ((cols ⟨p.val % 1024, Nat.mod_lt _ (by norm_num)⟩ ⟨p.val / 1024 % 512, Nat.mod_lt _ (by norm_num)⟩).2).trans ?_
    show ((grouped _ (512 + p.val / 1024 % 512) : ℝ) : EReal) = _
    rw [show 512 + p.val / 1024 % 512 = p.val / 1024 by omega]

variable (m : (ℓ : Loc nD τ sig) → Buf (Elt Ideal) ℓ) (ρ : Dev nD → PrngReg)

/-- The real part of the result, read as a vector. -/
theorem real_sums (c : Dev nD) (h : Finite (arg0 m c)) :
    shapeCast S1048576 (realResult m c) shapeCasts_S1024x1024_S1048576 = sums (arg0 m c) := by
  refine Eq.trans ?_ (stacked_sums (arg0 m c) h (realBlock m c t0_0) (realBlock m c t0_1)
    (fun r d => (realBlock_apply m c t0_0 r d).trans (congrArg (arg0 m c) (congrArg ix1 (Fin.ext ?_))))
    (fun r d => realBlock_apply m c t0_1 r d))
  · unfold realResult realOut realRows
    rw [coord_eq, coord_eq]
    rfl
  · show 1024 * (512 * 0 + r.val) + d.val = 1024 * r.val + d.val
    omega

/-- The imaginary part of the result, read as a vector. -/
theorem imag_sums (c : Dev nD) (h : Finite (arg1 m c)) :
    shapeCast S1048576 (imagResult m c) shapeCasts_S1024x1024_S1048576 = sums (arg1 m c) := by
  refine Eq.trans ?_ (stacked_sums (arg1 m c) h (imagBlock m c t0_0) (imagBlock m c t0_1)
    (fun r d => (imagBlock_apply m c t0_0 r d).trans (congrArg (arg1 m c) (congrArg ix1 (Fin.ext ?_))))
    (fun r d => imagBlock_apply m c t0_1 r d))
  · unfold imagResult imagOut imagRows
    rw [coord_eq, coord_eq]
    rfl
  · show 1024 * (512 * 0 + r.val) + d.val = 1024 * r.val + d.val
    omega

/-- Every run from finite arguments ends with the Walsh-Hadamard sums of each argument and the arguments unchanged. -/
theorem run_sums (h0 : ∀ c, Finite (arg0 m c)) (h1 : ∀ c, Finite (arg1 m c)) :
    θ_run (defs (F := Ideal)) (onTc (τ := τ) (main (F := Ideal))) ⟨m, fun _ => 0, ρ⟩ fun r => ∀ c : Dev nD,
      r.2.mem ((c.tc : Thread nD τ).loc main_v3) = sums (arg0 m c)
      ∧ r.2.mem ((c.tc : Thread nD τ).loc main_v4) = sums (arg1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(h c).1.trans (real_sums m c (h0 c)), (h c).2.1.trans (imag_sums m c (h1 c)), (h c).2.2⟩) (run_results m ρ)

end Cert.KernelIdeal.Wht

end
-- ==== Proof.RefWords.lean ====
/- The reference's index words at one stage `k` of the twenty: which bit it flips, which index of a pair is the lower,
   and that the twiddle factor it looks up is always the first one. -/
module

public import proofs.«01_k».proof.Proof.Gen.ReferenceIdeal
public import Idealize.ShloMosaic.Lib.Routing.OpsSet
public import Idealize.ShloMosaic.Lib.WordArith
public import Idealize.ShloMosaic.Lib.Affine
public import Mathlib.Data.Nat.Bitwise

@[expose] public section

noncomputable section

namespace Cert.ReferenceIdeal.Stage

open Idealize.ShloMosaic Idealize.ShloMosaic.StableHlo Idealize.ShloMosaic.ValueIdx

/-- The lower of the two indices that stage `k` pairs `j` with. -/
def low (k j : ℕ) : ℕ := if j.testBit k then j ^^^ 2 ^ k else j

theorem pow_lt {k : ℕ} (hk : k < 20) : 2 ^ k < 2 ^ 20 := Nat.pow_lt_pow_right (by decide) hk

theorem flip_lt {k j : ℕ} (hk : k < 20) (hj : j < 2 ^ 20) : j ^^^ 2 ^ k < 2 ^ 20 := Nat.xor_lt_two_pow hj (pow_lt hk)

theorem low_lt {k j : ℕ} (hk : k < 20) (hj : j < 2 ^ 20) : low k j < 2 ^ 20 := by
  unfold low; split
  · exact flip_lt hk hj
  · exact hj

/-- Flipping bit `k` raises the index exactly when the bit was clear. -/
theorem lt_flip (k j : ℕ) : j < j ^^^ 2 ^ k ↔ j.testBit k = false := by
  constructor
  · intro h
    by_contra hb
    have hb : j.testBit k = true := by simpa using hb
    have : j ^^^ 2 ^ k < j := by
      refine Nat.lt_of_testBit k ?_ hb fun i hi => ?_
      · rw [Nat.testBit_xor, Nat.testBit_two_pow, hb]; simp
      · rw [Nat.testBit_xor, Nat.testBit_two_pow]; simp [Nat.ne_of_lt hi]
    omega
  · intro hb
    refine Nat.lt_of_testBit k hb ?_ fun i hi => ?_
    · rw [Nat.testBit_xor, Nat.testBit_two_pow, hb]; simp
    · rw [Nat.testBit_xor, Nat.testBit_two_pow]; simp [Nat.ne_of_lt hi]

/-- The lower index of a pair has bit `k` clear. -/
theorem low_bit (k j : ℕ) : (low k j).testBit k = false := by
  unfold low
  by_cases h : j.testBit k
  · rw [if_pos h, Nat.testBit_xor, Nat.testBit_two_pow, h]; simp
  · rw [if_neg h]; simpa using h

/-- So within its group of `2^(k+1)` it stands in the first half. -/
theorem low_mod (k j : ℕ) : low k j % 2 ^ (k + 1) < 2 ^ k := by
  have h := low_bit k j
  rw [Nat.testBit_eq_decide_div_mod_eq] at h
  have h : low k j / 2 ^ k % 2 = 0 := by
    have := of_decide_eq_false h
    omega
  rw [Nat.pow_succ, Nat.mod_mul, h, Nat.mul_zero, Nat.add_zero]
  exact Nat.mod_lt _ (Nat.two_pow_pos k)

/-- The stage's stride. -/
theorem stride_word {k : ℕ} (hk : k < 20) : IntOp.shli .host 1#32 (BitVec.ofNat 32 k) = BitVec.ofNat 32 (2 ^ k) := by
  have : ∀ k < 20, IntOp.shli .host 1#32 (BitVec.ofNat 32 k) = BitVec.ofNat 32 (2 ^ k) := by decide +kernel
  exact this k hk

/-- Signed comparison of two small words. -/
theorem slt_word {a b : ℕ} (ha : a < 2 ^ 31) (hb : b < 2 ^ 31) :
    IntOp.cmpi .slt (BitVec.ofNat 32 a) (BitVec.ofNat 32 b) = if a < b then 1#1 else 0#1 := by
  by_cases h : a < b
  · rw [if_pos h, IntOp.cmpi_slt, WordArith.toInt_ofNat_small a ha, WordArith.toInt_ofNat_small b hb]; omega
  · rw [if_neg h]
    refine (BitVec.eq_zero_or_eq_one _).resolve_right fun h' => h ?_
    have := IntOp.cmpi_slt.mp h'
    rw [WordArith.toInt_ofNat_small a ha, WordArith.toInt_ofNat_small b hb] at this
    omega

/-- The remainder of a small word by a small positive one. -/
theorem rem_word {a b : ℕ} (ha : a < 2 ^ 31) (hb : b < 2 ^ 31) (h0 : 0 < b) :
    IntOp.remsi .host (BitVec.ofNat 32 a) (BitVec.ofNat 32 b) = BitVec.ofNat 32 (a % b) := by
  have tb := WordArith.toInt_ofNat_small b hb
  have ta := WordArith.toInt_ofNat_small a ha
  unfold IntOp.remsi
  rw [if_neg]
  · refine BitVec.eq_of_toInt_eq ?_
    rw [BitVec.toInt_srem, ta, tb, WordArith.toInt_ofNat_small _ (lt_of_le_of_lt (Nat.mod_le _ _) ha), Int.tmod_eq_emod_of_nonneg (by omega)]
    omega
  · rintro (h | ⟨-, h⟩)
    · rw [h] at tb; simp at tb; omega
    · rw [h] at tb; simp at tb

/-- The word the wrap of a negative index leaves alone. -/
theorem wrap_word {a : ℕ} (ha : a < 2 ^ 20) :
    Scalar.select (IntOp.cmpi .slt (BitVec.ofNat 32 a) 0#32) (IntOp.addi (BitVec.ofNat 32 a) 1048576#32) (BitVec.ofNat 32 a) = BitVec.ofNat 32 a := by
  rw [show (0#32 : BitVec 32) = BitVec.ofNat 32 0 from rfl, slt_word (by omega) (by omega), if_neg (Nat.not_lt_zero _)]
  rfl

/-- The reference's look-up of a vector at an array of index words, negative ones wrapped: entry `p` is the vector's
    entry at the word's number. -/
theorem lookup {α : Type} (x : S1048576.Idx → α) (w : IVec S1048576 32) (p : Fin 1048576) {b : ℕ} (hb : b < 2 ^ 20)
    (hw : w (ix1 p) = BitVec.ofNat 32 b) :
    Host.gather gather_S1048576_S1048576x1_S1048576_n_0_n_n_0_1_1 x (broadcastInDim S1048576x1 ![0] Facts₀.bcast_S1048576_S1048576x1_0
      (select (cmpi .slt w (broadcastInDim S1048576 ![] Facts₀.bcast_S_S1048576 (constantI S_ 32 0#32)))
        (addi w (broadcastInDim S1048576 ![] Facts₀.bcast_S_S1048576 (constantI S_ 32 1048576#32))) w)) (ix1 p) = x (ix1 ⟨b, hb⟩) := by
  refine Routing.gather_take1 (N := 1048576) (n := 1048576) gather_S1048576_S1048576x1_S1048576_n_0_n_n_0_1_1 rfl rfl rfl rfl x _ p ⟨b, hb⟩ ?_ (by decide)
  refine (Routing.bcCol _ _ p).trans ?_
  show Scalar.select (IntOp.cmpi .slt (w (ix1 p)) 0#32) (IntOp.addi (w (ix1 p)) 1048576#32) (w (ix1 p)) = _
  rw [hw]
  exact wrap_word hb

end Cert.ReferenceIdeal.Stage

end
-- ==== Proof.RefStage.lean ====
/- One trip of the reference's loop, from finite contents: it is one butterfly stage on each of the two vectors. -/
module

public import proofs.«01_k».proof.Proof.RefWords
public import proofs.«01_k».proof.Proof.Walsh
public import Idealize.ShloMosaic.PureOps.Ideal.Laws
public import proofs.«01_k».proof.Proof.Gen.ReferenceIdeal.Run

@[expose] public section

noncomputable section

namespace Cert.ReferenceIdeal.Stage

open Idealize.ShloMosaic Idealize.ShloMosaic.TcCoe Idealize.ShloMosaic.StableHlo Idealize.ShloMosaic.ValueIdx
open Cert.ReferenceIdeal.Value Cert.Walsh

/-- What a buffer of `V` holds. -/
abbrev at_ (V : Valuation τ sig (Elt Ideal)) (b : Ref sig .tc) : (Proc.devRef (τ := τ) .tc b : DevRef τ sig).ty.Contents (Elt Ideal) :=
  V (Proc.devRef .tc b)

/-- A word of an index vector. -/
def wordAt (v : IVec S1048576 32) (p : Fin 1048576) : BitVec 32 := v (ix1 p)
/-- A bit of a vector of conditions. -/
def bitAt (v : IVec S1048576 1) (p : Fin 1048576) : BitVec 1 := v (ix1 p)
/-- An entry of a vector of numbers. -/
def realAt (v : FVec Ideal S1048576 .f32) (p : Fin 1048576) : EReal := v (ix1 p)

/-- Before trip `k`: the index vector counts, the first twiddle factor is 1, the counter is `k`, and the two vectors hold
    the reals `f` and `g`. -/
structure Before (k : ℕ) (V : Valuation τ sig (Elt Ideal)) (f g : ℕ → ℝ) : Prop where
  index : ∀ p : Fin 1048576, wordAt (at_ V main_v8_0) p = BitVec.ofNat 32 p.val
  cos_zero : realAt (at_ V main_v8_1) ⟨0, by decide⟩ = (1 : EReal)
  sin_zero : realAt (at_ V main_v8_2) ⟨0, by decide⟩ = (0 : EReal)
  counter : (at_ V main_v8_4 : IVec S_ 32) = fun _ => BitVec.ofNat 32 k
  re : ∀ p : Fin 1048576, realAt (at_ V main_v8_5) p = ((f p.val : ℝ) : EReal)
  im : ∀ p : Fin 1048576, realAt (at_ V main_v8_6) p = ((g p.val : ℝ) : EReal)

section Trip

variable {k : ℕ} {V : Valuation τ sig (Elt Ideal)} {f g : ℕ → ℝ} (hk : k < 20) (h : Before k V f g) (p : Fin 1048576)

include hk h

/-- The stride, at every index. -/
theorem v13_word : wordAt (res_main_while0b_v13 V) p = BitVec.ofNat 32 (2 ^ k) := by
  have hc := congrFun h.counter
  show IntOp.shli .host 1#32 ((at_ V main_v8_4 : IVec S_ 32) _) = _
  rw [hc]
  exact stride_word hk

/-- The index paired with `p`. -/
theorem v14_word : wordAt (res_main_while0b_v14 V) p = BitVec.ofNat 32 (p.val ^^^ 2 ^ k) := by
  show wordAt (at_ V main_v8_0) p ^^^ wordAt (res_main_while0b_v13 V) p = _
  rw [h.index, v13_word hk h, ← BitVec.ofNat_xor]

/-- Whether `p` is the lower of its pair. -/
theorem v15_word : bitAt (res_main_while0b_v15 V) p = if p.val.testBit k then 0#1 else 1#1 := by
  have hf := flip_lt hk p.isLt
  have hp := p.isLt
  show IntOp.cmpi .slt (wordAt (at_ V main_v8_0) p) (wordAt (res_main_while0b_v14 V) p) = _
  rw [h.index, v14_word hk h, slt_word (by omega) (by omega)]
  by_cases hb : p.val.testBit k
  · rw [if_neg, if_pos hb]
    rw [lt_flip, hb]; decide
  · rw [if_pos, if_neg hb]
    rw [lt_flip]; simpa using hb

/-- The lower of the pair. -/
theorem v16_word : wordAt (res_main_while0b_v16 V) p = BitVec.ofNat 32 (low k p.val) := by
  show Scalar.select (bitAt (res_main_while0b_v15 V) p) (wordAt (at_ V main_v8_0) p)
    (wordAt (res_main_while0b_v14 V) p) = _
  rw [v15_word hk h, h.index, v14_word hk h]
  unfold low
  by_cases hb : p.val.testBit k
  · rw [if_pos hb, if_pos hb]; rfl
  · rw [if_neg hb, if_neg hb]; rfl

/-- The twiddle factor looked up is the first. -/
theorem v28_word : wordAt (res_main_while0b_v28 V) p = BitVec.ofNat 32 0 := by
  have hl := low_lt hk p.isLt
  have hm := low_mod k p.val
  have hp := pow_lt hk
  have h19 : wordAt (res_main_while0b_v19 V) p = BitVec.ofNat 32 (low k p.val % 2 ^ (k + 1)) := by
    show IntOp.remsi .host (wordAt (res_main_while0b_v16 V) p)
      (2#32 * wordAt (res_main_while0b_v13 V) p) = _
    rw [v16_word hk h, v13_word hk h, show (2#32 : BitVec 32) = BitVec.ofNat 32 2 from rfl, ← BitVec.ofNat_mul, Nat.mul_comm 2, ← Nat.pow_succ]
    exact rem_word (by omega) (by rw [Nat.pow_succ]; omega) (Nat.two_pow_pos _)
  show Scalar.select (IntOp.cmpi .slt (wordAt (res_main_while0b_v19 V) p) (wordAt (res_main_while0b_v13 V) p))
    0#32 _ = _
  rw [h19, v13_word hk h, slt_word (by omega) (by omega), if_pos hm]
  rfl

/-- The two vectors at the lower index of the pair. -/
theorem v49_val : realAt (res_main_while0b_v49 V) p = ((f (low k p.val) : ℝ) : EReal) :=
  (lookup _ _ p (low_lt hk p.isLt) (v16_word hk h p)).trans (h.re _)

theorem v56_val : realAt (res_main_while0b_v56 V) p = ((g (low k p.val) : ℝ) : EReal) :=
  (lookup _ _ p (low_lt hk p.isLt) (v16_word hk h p)).trans (h.im _)

/-- The word of the upper index of the pair. -/
theorem v57_word : wordAt (res_main_while0b_v57 V) p = BitVec.ofNat 32 (low k p.val ^^^ 2 ^ k) := by
  show wordAt (res_main_while0b_v16 V) p ^^^ wordAt (res_main_while0b_v13 V) p = _
  rw [v16_word hk h, v13_word hk h, ← BitVec.ofNat_xor]

/-- The two vectors at the upper index of the pair. -/
theorem v64_val : realAt (res_main_while0b_v64 V) p = ((f (low k p.val ^^^ 2 ^ k) : ℝ) : EReal) :=
  (lookup _ _ p (flip_lt hk (low_lt hk p.isLt)) (v57_word hk h p)).trans (h.re _)

theorem v72_val : realAt (res_main_while0b_v72 V) p = ((g (low k p.val ^^^ 2 ^ k) : ℝ) : EReal) :=
  (lookup _ _ p (flip_lt hk (low_lt hk p.isLt)) (v57_word hk h p)).trans (h.im _)

/-- The twiddle factor's two parts. -/
theorem v35_val : realAt (res_main_while0b_v35 V) p = (1 : EReal) :=
  (lookup _ _ p (by decide) (v28_word hk h p)).trans h.cos_zero

theorem v42_val : realAt (res_main_while0b_v42 V) p = (0 : EReal) :=
  (lookup _ _ p (by decide) (v28_word hk h p)).trans h.sin_zero

/-- The twiddled upper entries: the upper entries themselves. -/
theorem v75_val : realAt (res_main_while0b_v75 V) p = ((f (low k p.val ^^^ 2 ^ k) : ℝ) : EReal) := by
  show realAt (res_main_while0b_v35 V) p * realAt (res_main_while0b_v64 V) p
    - realAt (res_main_while0b_v42 V) p * realAt (res_main_while0b_v72 V) p = (_ : EReal)
  rw [v35_val hk h, v42_val hk h, v64_val hk h]
  simp

theorem v78_val : realAt (res_main_while0b_v78 V) p = ((g (low k p.val ^^^ 2 ^ k) : ℝ) : EReal) := by
  show realAt (res_main_while0b_v35 V) p * realAt (res_main_while0b_v72 V) p
    + realAt (res_main_while0b_v42 V) p * realAt (res_main_while0b_v64 V) p = (_ : EReal)
  rw [v35_val hk h, v42_val hk h, v72_val hk h]
  simp

omit hk h in
/-- The lower plus the upper entry, or the lower minus the upper, is the stage at `p`. -/
theorem stage_eq (k : ℕ) (f : ℕ → ℝ) (j : ℕ) (c : BitVec 1) (hc : c = if j.testBit k then 0#1 else 1#1) :
    Scalar.select c (((f (low k j) : ℝ) : EReal) + ((f (low k j ^^^ 2 ^ k) : ℝ) : EReal))
      (((f (low k j) : ℝ) : EReal) - ((f (low k j ^^^ 2 ^ k) : ℝ) : EReal)) = ((stage k f j : ℝ) : EReal) := by
  subst hc
  unfold low stage
  by_cases hb : j.testBit k
  · simp only [if_pos hb, Nat.xor_assoc, Nat.xor_self, Nat.xor_zero]
    rw [EReal.coe_sub]; rfl
  · simp only [if_neg hb]
    rw [EReal.coe_add]; rfl

/-- After the trip, the first vector holds the stage of what it held. -/
theorem v5_after : realAt (at_ (STEP V) main_v8_5) p = ((stage k f p.val : ℝ) : EReal) := by
  rw [at_, STEP_main_v8_5]
  show Scalar.select (bitAt (res_main_while0b_v15 V) p)
    (realAt (res_main_while0b_v49 V) p + realAt (res_main_while0b_v75 V) p : EReal)
    (realAt (res_main_while0b_v49 V) p - realAt (res_main_while0b_v75 V) p : EReal) = _
  rw [v49_val hk h, v75_val hk h]
  exact stage_eq k f p.val _ (v15_word hk h p)

/-- And so does the second. -/
theorem v6_after : realAt (at_ (STEP V) main_v8_6) p = ((stage k g p.val : ℝ) : EReal) := by
  rw [at_, STEP_main_v8_6]
  show Scalar.select (bitAt (res_main_while0b_v15 V) p)
    (realAt (res_main_while0b_v56 V) p + realAt (res_main_while0b_v78 V) p : EReal)
    (realAt (res_main_while0b_v56 V) p - realAt (res_main_while0b_v78 V) p : EReal) = _
  rw [v56_val hk h, v78_val hk h]
  exact stage_eq k g p.val _ (v15_word hk h p)

omit p in
/-- ONE TRIP: what holds before trip `k` holds before trip `k + 1` of the stage's two vectors. -/
theorem trip : Before (k + 1) (STEP V) (stage k f) (stage k g) where
  index := fun p => by rw [at_, STEP_main_v8_0]; exact h.index p
  cos_zero := by rw [at_, STEP_main_v8_1]; exact h.cos_zero
  sin_zero := by rw [at_, STEP_main_v8_2]; exact h.sin_zero
  counter := by
    rw [at_, STEP_main_v8_4]
    funext i
    have hc := congrFun h.counter i
    show IntOp.addi ((at_ V main_v8_4 : IVec S_ 32) i) 1#32 = _
    rw [hc, IntOp.addi, show (1#32 : BitVec 32) = BitVec.ofNat 32 1 from rfl, ← BitVec.ofNat_add]
  re := v5_after hk h
  im := v6_after hk h

end Trip

/-- After `n` trips the two vectors hold `n` stages of what they held. -/
theorem trips {V : Valuation τ sig (Elt Ideal)} {f g : ℕ → ℝ} (h : Before 0 V f g) :
    ∀ n ≤ 20, Before n (STEP^[n] V) (stages n f) (stages n g)
  | 0, _ => h
  | n + 1, hn => by
    rw [Function.iterate_succ_apply']
    exact trip (by omega) (trips h n (by omega))

/-- After the loop, each vector holds the Walsh-Hadamard sums of what it held. -/
theorem loop {V : Valuation τ sig (Elt Ideal)} {f g : ℕ → ℝ} (h : Before 0 V f g) (p : Fin 1048576) :
    realAt (at_ (STEP^[20] V) main_v8_5) p = ((walsh 20 f p.val : ℝ) : EReal)
    ∧ realAt (at_ (STEP^[20] V) main_v8_6) p = ((walsh 20 g p.val : ℝ) : EReal) := by
  have e := trips h 20 le_rfl
  rw [e.re p, e.im p, stages_all 20 f p.isLt, stages_all 20 g p.isLt]
  exact ⟨rfl, rfl⟩

end Cert.ReferenceIdeal.Stage

end
-- ==== Proof.RefValue.lean ====
/- The reference's two results, from finite arguments: the Walsh-Hadamard sums of the two argument vectors. -/
module

public import proofs.«01_k».proof.Proof.RefStage
public import proofs.«01_k».proof.Proof.Vectors

@[expose] public section

set_option maxRecDepth 8192

noncomputable section

namespace Cert.ReferenceIdeal.Stage

open Idealize.ShloMosaic Idealize.ShloMosaic.TcCoe Idealize.ShloMosaic.StableHlo Idealize.ShloMosaic.ValueIdx
open Idealize.ShloMosaic.Tactic Idealize.SL.Sem
open Cert.ReferenceIdeal.Value Cert.Walsh

variable (m : (ℓ : Loc nD τ sig) → Buf (Elt Ideal) ℓ) (ρ : Dev nD → PrngReg) (c : Dev nD)

/-- The two argument vectors. -/
abbrev arg0 : FVec Ideal S1048576 .f32 := m ((c.tc : Thread nD τ).loc main_arg0)
abbrev arg1 : FVec Ideal S1048576 .f32 := m ((c.tc : Thread nD τ).loc main_arg1)

/-- The angles whose cosines and sines are the twiddle factors. -/
def angles : FVec Ideal S1048576 .f32 :=
  Host.divf (mulf (broadcastInDim S1048576 ![] Facts₀.bcast_S_S1048576 (constant S_ .f32 0xC0C90FDB#32)) (sitofp .f32 (iotaInDim S1048576 32 0)))
    (broadcastInDim S1048576 ![] Facts₀.bcast_S_S1048576 (constant S_ .f32 0x49800000#32))

/-- What the buffers the loop carries hold when it is entered. -/
theorem entry0 : at_ (entryContents preI m c) main_v8_0 = iotaInDim S1048576 32 0 := by
  simp only [at_, entryContents, afterL_cons, afterL_nil]
  after_reads_simp
  rfl
theorem entry1 : at_ (entryContents preI m c) main_v8_1 = Host.cos angles := by
  simp only [at_, entryContents, afterL_cons, afterL_nil]
  after_reads_simp
  rfl
theorem entry2 : at_ (entryContents preI m c) main_v8_2 = Host.sin angles := by
  simp only [at_, entryContents, afterL_cons, afterL_nil]
  after_reads_simp
  rfl
theorem entry4 : at_ (entryContents preI m c) main_v8_4 = constantI S_ 32 0#32 := by
  simp only [at_, entryContents, afterL_cons, afterL_nil]
  after_reads_simp
  rfl
theorem entry5 : at_ (entryContents preI m c) main_v8_5 = arg0 m c := by
  simp only [at_, entryContents, afterL_cons, afterL_nil]
  after_reads_simp
  rfl
theorem entry6 : at_ (entryContents preI m c) main_v8_6 = arg1 m c := by
  simp only [at_, entryContents, afterL_cons, afterL_nil]
  after_reads_simp
  rfl

/-- The divisor of the angles, 2^20. -/
theorem divisor : (Ideal.ieee 8 23 (0x49800000#32 : BitVec 32)) ≠ 0 := by
  unfold Ideal.ieee
  rw [if_neg (by decide), if_neg (by decide), Ne, ← EReal.coe_zero, EReal.coe_eq_coe_iff]
  refine mul_ne_zero (mul_ne_zero ?_ ?_) (zpow_ne_zero _ (by norm_num))
  · split <;> norm_num
  · exact_mod_cast (by omega)

/-- The first angle is 0. -/
theorem angle_zero : realAt angles ⟨0, by decide⟩ = 0 := by
  show Ideal.div (Ideal.ieee 8 23 (0xC0C90FDB#32 : BitVec 32) * ((((0#32 : BitVec 32).toInt : ℝ)) : EReal)) (Ideal.ieee 8 23 (0x49800000#32 : BitVec 32)) = 0
  rw [Ideal.div, if_neg divisor]
  simp

/-- What holds when the loop is entered, from finite arguments. -/
theorem before_zero (h0 : Finite (arg0 m c)) (h1 : Finite (arg1 m c)) :
    Before 0 (entryContents preI m c) (reals (arg0 m c)) (reals (arg1 m c)) where
  index := fun p => by rw [entry0]; rfl
  cos_zero := by
    rw [entry1]
    show Ideal.cos (realAt angles ⟨0, by decide⟩) = 1
    rw [angle_zero, ← EReal.coe_zero, Ideal.cos_coe]; simp
  sin_zero := by
    rw [entry2]
    show Ideal.sin (realAt angles ⟨0, by decide⟩) = 0
    rw [angle_zero, ← EReal.coe_zero, Ideal.sin_coe]; simp
  counter := by rw [entry4]; rfl
  re := fun p => by rw [entry5]; exact reals_coe h0 p
  im := fun p => by rw [entry6]; exact reals_coe h1 p

/-- THE REFERENCE'S RESULTS: from finite arguments, the Walsh-Hadamard sums of each. -/
theorem run_sums (h0 : ∀ c, Finite (arg0 m c)) (h1 : ∀ c, Finite (arg1 m c)) :
    θ_run (defs (F := Ideal)) (onTc (τ := τ) (main (F := Ideal))) ⟨m, fun _ => 0, ρ⟩ fun r => ∀ c : Dev nD,
      r.2.mem ((c.tc : Thread nD τ).loc main_v8_5) = sums (arg0 m c)
      ∧ r.2.mem ((c.tc : Thread nD τ).loc main_v8_6) = sums (arg1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    have e := loop (before_zero m c (h0 c) (h1 c))
    refine ⟨(h c).1.trans (funext fun y => ?_), (h c).2.1.trans (funext fun y => ?_), (h c).2.2⟩
    · rw [eq_ix1 y]; exact (e (y 0)).1
    · rw [eq_ix1 y]; exact (e (y 0)).2) (run m ρ)

end Cert.ReferenceIdeal.Stage

end
-- ==== Proof.Equation.lean ====
/- The kernel and the reference leave the same two vectors: from finite arguments, the Walsh-Hadamard sums of each. -/
module

public import proofs.«01_k».proof.Proof.FinitePre
public import proofs.«01_k».proof.Proof.KernelSums
public import proofs.«01_k».proof.Proof.RefValue

@[expose] public section

noncomputable section

namespace Cert.Proof

open Idealize.ShloMosaic Idealize.SL.Sem Cert.Walsh

/-- THE EQUATION: over the extended reals, from the same finite arguments, the kernel's two results are the reference's. -/
theorem equation : Cert.algebraic_KernelIdeal_ReferenceIdeal_pre_finite := by
  intro m g m' g' hpre hargs
  have k0 : ∀ c, Finite (Cert.KernelIdeal.Wht.arg0 m c) := fun c => (finite_of_pre _ _ (hpre c)).1
  have k1 : ∀ c, Finite (Cert.KernelIdeal.Wht.arg1 m c) := fun c => (finite_of_pre _ _ (hpre c)).2
  have e0 : ∀ c, Cert.ReferenceIdeal.Stage.arg0 m' c = Cert.KernelIdeal.Wht.arg0 m c := fun c => (hargs c).1
  have e1 : ∀ c, Cert.ReferenceIdeal.Stage.arg1 m' c = Cert.KernelIdeal.Wht.arg1 m c := fun c => (hargs c).2
  refine ⟨fun c => sums (Cert.KernelIdeal.Wht.arg0 m c), fun c => sums (Cert.KernelIdeal.Wht.arg1 m c),
    Cert.KernelIdeal.Wht.run_sums m g k0 k1, ?_⟩
  refine (θ_run Cert.ReferenceIdeal.defs _ _).mono (fun r h c => ?_)
    (Cert.ReferenceIdeal.Stage.run_sums m' g' (fun c => by rw [e0]; exact k0 c) (fun c => by rw [e1]; exact k1 c))
  exact ⟨(h c).1.trans (congrArg sums (e0 c)), (h c).2.1.trans (congrArg sums (e1 c)), (h c).2.2⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equation

@[expose] public section

noncomputable section

namespace Cert.Proof

/-- Every claim of the certificate. -/
theorem claim : Cert.Claim :=
  ⟨_, _, _, preFacts, frame_kernel, frame_kernelIdeal, frame_kernelIdeal_finite, frame_reference, frame_reference_finite,
    trivial, equation⟩

end Cert.Proof

end
